-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "neg_inv_50" .f32 0xBCA3D70A#32 ((-1 / 50 : ℝ) : EReal)

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S8x64x64x313 : Shape := ⟨4, ![8, 64, 64, 313]⟩
abbrev S8x3x64x64 : Shape := ⟨4, ![8, 3, 64, 64]⟩
abbrev S313 : Shape := ⟨1, ![313]⟩
abbrev S313x2 : Shape := ⟨2, ![313, 2]⟩
abbrev S_ : Shape := ⟨0, ![]⟩
abbrev S8x2x64x64 : Shape := ⟨4, ![8, 2, 64, 64]⟩
abbrev S5 : Shape := ⟨1, ![5]⟩
abbrev S8x1x64x64 : Shape := ⟨4, ![8, 1, 64, 64]⟩
abbrev S8x64x64 : Shape := ⟨3, ![8, 64, 64]⟩
abbrev S313x1 : Shape := ⟨2, ![313, 1]⟩

class Facts : Prop where
  bcast_S_S8x64x64x313 : S_.BroadcastsInDim S8x64x64x313 (![] : Fin 0 → Fin S8x64x64x313.rank)
  slices_S8x3x64x64_S8x2x64x64_0_1_0_0 : S8x3x64x64.Slices ![0, 1, 0, 0] S8x2x64x64
  bcast_S_S8x2x64x64 : S_.BroadcastsInDim S8x2x64x64 (![] : Fin 0 → Fin S8x2x64x64.rank)
  slices_S313_S5_0 : S313.Slices ![0] S5
  bcast_S_S5 : S_.BroadcastsInDim S5 (![] : Fin 0 → Fin S5.rank)
  slices_S8x3x64x64_S8x1x64x64_0_1_0_0 : S8x3x64x64.Slices ![0, 1, 0, 0] S8x1x64x64
  shapeCasts_S8x1x64x64_S8x64x64 : S8x1x64x64.ShapeCasts S8x64x64
  bcast_S_S8x64x64 : S_.BroadcastsInDim S8x64x64 (![] : Fin 0 → Fin S8x64x64.rank)
  bcast_S_S313 : S_.BroadcastsInDim S313 (![] : Fin 0 → Fin S313.rank)
  bcast_S313_S313x1_0 : S313.BroadcastsInDim S313x1 (![0] : Fin 1 → Fin S313x1.rank)
  concatenates_S313x1_S313x1_S313x2_d1 : Shape.Concatenates [S313x1, S313x1] S313x2 1

variable [Facts]

def fn_where {F : FTy → Type} [FloatOps F] (arg0 : IVec S313 1) (arg1 : IVec S313 32) (arg2 : IVec S313 32) : IVec S313 32 :=
  let v0 : IVec S313 32 := select arg0 arg1 arg2
  v0

def fn_floor_divide {F : FTy → Type} [FloatOps F] (arg0 : IVec S313 32) (arg1 : IVec S_ 32) : IVec S313 32 :=
  let v0 : IVec S_ 32 := id arg1
  let v1 : IVec S313 32 := broadcastInDim S313 ![] bcast_S_S313 v0
  let v2 : IVec S313 32 := Host.divsi arg0 v1
  let v3 : IVec S313 32 := signi arg0
  let v4 : IVec S_ 32 := signi v0
  let v5 : IVec S313 32 := broadcastInDim S313 ![] bcast_S_S313 v4
  let v6 : IVec S313 1 := cmpi .ne v3 v5
  let v7 : IVec S313 32 := broadcastInDim S313 ![] bcast_S_S313 v0
  let v8 : IVec S313 32 := Host.remsi arg0 v7
  let c : IVec S_ 32 := constantI S_ 32 0#32
  let v9 : IVec S313 32 := broadcastInDim S313 ![] bcast_S_S313 c
  let v10 : IVec S313 1 := cmpi .ne v8 v9
  let v11 : IVec S313 1 := andi v6 v10
  let c_0 : IVec S_ 32 := constantI S_ 32 1#32
  let v12 : IVec S313 32 := broadcastInDim S313 ![] bcast_S_S313 c_0
  let v13 : IVec S313 32 := subi v2 v12
  let v14 : IVec S313 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S313 32) (arg1 : IVec S_ 32) : IVec S313 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S313 32 := broadcastInDim S313 ![] bcast_S_S313 v2
  let v4 : IVec S313 32 := Host.remsi arg0 v3
  let c_1 : IVec S_ 32 := constantI S_ 32 0#32
  let v5 : IVec S313 32 := broadcastInDim S313 ![] bcast_S_S313 c_1
  let v6 : IVec S313 1 := cmpi .ne v4 v5
  let c_2 : IVec S_ 32 := constantI S_ 32 0#32
  let v7 : IVec S313 32 := broadcastInDim S313 ![] bcast_S_S313 c_2
  let v8 : IVec S313 1 := cmpi .slt v4 v7
  let c_3 : IVec S_ 32 := constantI S_ 32 0#32
  let v9 : IVec S_ 1 := cmpi .slt v2 c_3
  let v10 : IVec S313 1 := broadcastInDim S313 ![] bcast_S_S313 v9
  let v11 : IVec S313 1 := cmpi .ne v8 v10
  let v12 : IVec S313 1 := andi v11 v6
  let v13 : IVec S313 32 := broadcastInDim S313 ![] bcast_S_S313 v2
  let v14 : IVec S313 32 := addi v4 v13
  let v15 : IVec S313 32 := select v12 v14 v4
  v15

def fn_part1 {F : FTy → Type} [FloatOps F] (main_arg3 : FVec F S313x2 .f32) (main_v2 : IVec S8x64x64x313 1) (main_v6 : IVec S8x2x64x64 1) (main_v10 : IVec S5 1) (main_v14 : IVec S8x64x64 1) (main_v15 : IVec S313 32) (main_v16 : IVec S313 32) (main_v17 : IVec S313 32) : IVec S8x64x64x313 1 × IVec S8x2x64x64 1 × IVec S5 1 × IVec S8x64x64 1 × IVec S313x2 1 :=
  let main_v18 : IVec S313 32 := muli main_v17 main_v16
  let main_c_4 : IVec S_ 32 := constantI S_ 32 4294967206#32
  let main_v19 : IVec S313 32 := broadcastInDim S313 ![] bcast_S_S313 main_c_4
  let main_v20 : IVec S313 32 := addi main_v19 main_v18
  let main_v21 : FVec F S313 .f32 := sitofp .f32 main_v20
  let main_c_5 : IVec S_ 32 := constantI S_ 32 18#32
  let main_v22 : IVec S313 32 := fn_remainder (F := F) main_v15 main_c_5
  let main_c_6 : IVec S_ 32 := constantI S_ 32 10#32
  let main_v23 : IVec S313 32 := broadcastInDim S313 ![] bcast_S_S313 main_c_6
  let main_v24 : IVec S313 32 := muli main_v23 main_v22
  let main_c_7 : IVec S_ 32 := constantI S_ 32 4294967206#32
  let main_v25 : IVec S313 32 := broadcastInDim S313 ![] bcast_S_S313 main_c_7
  let main_v26 : IVec S313 32 := addi main_v25 main_v24
  let main_v27 : FVec F S313 .f32 := sitofp .f32 main_v26
  let main_v28 : FVec F S313x1 .f32 := broadcastInDim S313x1 ![0] bcast_S313_S313x1_0 main_v21
  let main_v29 : FVec F S313x1 .f32 := broadcastInDim S313x1 ![0] bcast_S313_S313x1_0 main_v27
  let main_v30 : FVec F S313x2 .f32 := (fun a b => concatenate S313x2 1 [⟨S313x1, a⟩, ⟨S313x1, b⟩] concatenates_S313x1_S313x1_S313x2_d1) main_v28 main_v29
  let main_v31 : IVec S313x2 1 := cmpf .oeq main_arg3 main_v30
  (main_v2, main_v6, main_v10, main_v14, main_v31)

def fn {F : FTy → Type} [FloatOps F] (main_arg0 : FVec F S8x64x64x313 .f32) (main_arg1 : FVec F S8x3x64x64 .f32) (main_arg2 : FVec F S313 .f32) (main_arg3 : FVec F S313x2 .f32) : IVec S8x64x64x313 1 × IVec S8x2x64x64 1 × IVec S5 1 × IVec S8x64x64 1 × IVec S313x2 1 :=
  let main_v0 : FVec F S8x64x64x313 .f32 := Host.absf main_arg0
  let main_cst : FVec F S_ .f32 := constant S_ .f32 0x7F800000#32
  let main_v1 : FVec F S8x64x64x313 .f32 := broadcastInDim S8x64x64x313 ![] bcast_S_S8x64x64x313 main_cst
  let main_v2 : IVec S8x64x64x313 1 := cmpf .olt main_v0 main_v1
  let main_v3 : FVec F S8x2x64x64 .f32 := (extractStridedSlice S8x2x64x64 ![0, 1, 0, 0] · slices_S8x3x64x64_S8x2x64x64_0_1_0_0) main_arg1
  let main_v4 : FVec F S8x2x64x64 .f32 := Host.absf main_v3
  let main_cst_0 : FVec F S_ .f32 := constant S_ .f32 0x7F800000#32
  let main_v5 : FVec F S8x2x64x64 .f32 := broadcastInDim S8x2x64x64 ![] bcast_S_S8x2x64x64 main_cst_0
  let main_v6 : IVec S8x2x64x64 1 := cmpf .olt main_v4 main_v5
  let main_v7 : FVec F S5 .f32 := (extractStridedSlice S5 ![0] · slices_S313_S5_0) main_arg2
  let main_v8 : FVec F S5 .f32 := Host.absf main_v7
  let main_cst_1 : FVec F S_ .f32 := constant S_ .f32 0x7F800000#32
  let main_v9 : FVec F S5 .f32 := broadcastInDim S5 ![] bcast_S_S5 main_cst_1
  let main_v10 : IVec S5 1 := cmpf .olt main_v8 main_v9
  let main_v11 : FVec F S8x1x64x64 .f32 := (extractStridedSlice S8x1x64x64 ![0, 1, 0, 0] · slices_S8x3x64x64_S8x1x64x64_0_1_0_0) main_arg1
  let main_v12 : FVec F S8x64x64 .f32 := shapeCast S8x64x64 main_v11 shapeCasts_S8x1x64x64_S8x64x64
  let main_cst_2 : FVec F S_ .f32 := constant S_ .f32 0x425C0000#32
  let main_v13 : FVec F S8x64x64 .f32 := broadcastInDim S8x64x64 ![] bcast_S_S8x64x64 main_cst_2
  let main_v14 : IVec S8x64x64 1 := cmpf .ole main_v12 main_v13
  let main_v15 : IVec S313 32 := iotaInDim S313 32 0
  let main_c : IVec S_ 32 := constantI S_ 32 18#32
  let main_v16 : IVec S313 32 := fn_floor_divide (F := F) main_v15 main_c
  let main_c_3 : IVec S_ 32 := constantI S_ 32 10#32
  let main_v17 : IVec S313 32 := broadcastInDim S313 ![] bcast_S_S313 main_c_3
  fn_part1 (F := F) main_arg3 main_v2 main_v6 main_v10 main_v14 main_v15 main_v16 main_v17
-- ==== Kernel.lean ====
abbrev S8x64x64x313 : Shape := ⟨4, ![8, 64, 64, 313]⟩
abbrev S8x3x64x64 : Shape := ⟨4, ![8, 3, 64, 64]⟩
abbrev S313 : Shape := ⟨1, ![313]⟩
abbrev S313x2 : Shape := ⟨2, ![313, 2]⟩
abbrev S32768x313 : Shape := ⟨2, ![32768, 313]⟩
abbrev S8x1x64x64 : Shape := ⟨4, ![8, 1, 64, 64]⟩
abbrev S8x64x64 : Shape := ⟨3, ![8, 64, 64]⟩
abbrev S1x32768 : Shape := ⟨2, ![1, 32768]⟩
abbrev S32768x5 : Shape := ⟨2, ![32768, 5]⟩
abbrev S5x32768 : Shape := ⟨2, ![5, 32768]⟩
abbrev S_ : Shape := ⟨0, ![]⟩
abbrev S8x32768 : Shape := ⟨2, ![8, 32768]⟩
abbrev S8x8x4096 : Shape := ⟨3, ![8, 8, 4096]⟩
abbrev S5 : Shape := ⟨1, ![5]⟩
abbrev S1x1 : Shape := ⟨2, ![1, 1]⟩
abbrev S1x8x4096 : Shape := ⟨3, ![1, 8, 4096]⟩
abbrev S4096x313 : Shape := ⟨2, ![4096, 313]⟩
abbrev S8x313 : Shape := ⟨2, ![8, 313]⟩
abbrev S8x4096 : Shape := ⟨2, ![8, 4096]⟩
abbrev S1x4096 : Shape := ⟨2, ![1, 4096]⟩
abbrev S4096 : Shape := ⟨1, ![4096]⟩
abbrev S1x1x4096 : Shape := ⟨3, ![1, 1, 4096]⟩
abbrev S1 : Shape := ⟨1, ![1]⟩

abbrev nBuf : Space → Nat
  | .hbm => 23
  | .vmem => 5
  | .smem => 1
  | _ => 0

abbrev bufTy : (tb : Table) → Fin (tcTables nBuf tb) → BufTy
  | .hbm, ⟨0, _⟩ => ⟨S8x64x64x313, .f32⟩
  | .hbm, ⟨1, _⟩ => ⟨S8x3x64x64, .f32⟩
  | .hbm, ⟨2, _⟩ => ⟨S313, .f32⟩
  | .hbm, ⟨3, _⟩ => ⟨S313x2, .f32⟩
  | .hbm, ⟨4, _⟩ => ⟨S32768x313, .f32⟩
  | .hbm, ⟨5, _⟩ => ⟨S8x1x64x64, .f32⟩
  | .hbm, ⟨6, _⟩ => ⟨S8x64x64, .f32⟩
  | .hbm, ⟨7, _⟩ => ⟨S1x32768, .f32⟩
  | .hbm, ⟨8, _⟩ => ⟨S8x1x64x64, .f32⟩
  | .hbm, ⟨9, _⟩ => ⟨S8x64x64, .f32⟩
  | .hbm, ⟨10, _⟩ => ⟨S1x32768, .f32⟩
  | .hbm, ⟨11, _⟩ => ⟨S32768x5, .f32⟩
  | .hbm, ⟨12, _⟩ => ⟨S5x32768, .f32⟩
  | .hbm, ⟨13, _⟩ => ⟨S_, .f32⟩
  | .hbm, ⟨14, _⟩ => ⟨S1x32768, .f32⟩
  | .hbm, ⟨15, _⟩ => ⟨S8x32768, .f32⟩
  | .hbm, ⟨16, _⟩ => ⟨S8x8x4096, .f32⟩
  | .hbm, ⟨17, _⟩ => ⟨S8x8x4096, .f32⟩
  | .hbm, ⟨18, _⟩ => ⟨S5, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x8x4096, .f32⟩
  | .local _ .vmem, ⟨1, _⟩ => ⟨S1x8x4096, .f32⟩
  | .local _ .vmem, ⟨2, _⟩ => ⟨S4096x313, .f32⟩
  | .local _ .vmem, ⟨3, _⟩ => ⟨S4096x313, .f32⟩
  | .local _ .vmem, ⟨4, _⟩ => ⟨S1x1, .f32⟩
  | .local _ .smem, ⟨0, _⟩ => ⟨S5, .f32⟩
  | _, _ => ⟨S8x64x64x313, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x313 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "neg_inv_50" => some ((-1 / 50 : ℝ) : EReal)
  | _ => none
-- ==== ReferenceIdeal.lean ====
abbrev S8x64x64x313 : Shape := ⟨4, ![8, 64, 64, 313]⟩
abbrev S8x3x64x64 : Shape := ⟨4, ![8, 3, 64, 64]⟩
abbrev S313 : Shape := ⟨1, ![313]⟩
abbrev S313x2 : Shape := ⟨2, ![313, 2]⟩
abbrev S8x1x64x64 : Shape := ⟨4, ![8, 1, 64, 64]⟩
abbrev S8x64x64 : Shape := ⟨3, ![8, 64, 64]⟩
abbrev S8x4096 : Shape := ⟨2, ![8, 4096]⟩
abbrev S313x1 : Shape := ⟨2, ![313, 1]⟩
abbrev S1x1x313 : Shape := ⟨3, ![1, 1, 313]⟩
abbrev S8x4096x1 : Shape := ⟨3, ![8, 4096, 1]⟩
abbrev S8x4096x313 : Shape := ⟨3, ![8, 4096, 313]⟩
abbrev S8x4096x5 : Shape := ⟨3, ![8, 4096, 5]⟩
abbrev S8x64x64x5 : Shape := ⟨4, ![8, 64, 64, 5]⟩
abbrev S8x64x64x1 : Shape := ⟨4, ![8, 64, 64, 1]⟩
abbrev S_ : Shape := ⟨0, ![]⟩
abbrev S8x64x64x2 : Shape := ⟨4, ![8, 64, 64, 2]⟩
abbrev S1 : Shape := ⟨1, ![1]⟩
abbrev S32768x313 : Shape := ⟨2, ![32768, 313]⟩
abbrev S32768 : Shape := ⟨1, ![32768]⟩
abbrev S32768x1 : Shape := ⟨2, ![32768, 1]⟩
abbrev S1x313 : Shape := ⟨2, ![1, 313]⟩

abbrev nBuf : Space → Nat
  | .hbm => 296
  | .vmem => 0
  | .smem => 0
  | _ => 0

abbrev hbmTy0_0 (i : Nat) : BufTy := match i % 128 with
  | 0 => ⟨S8x64x64x313, .f32⟩
  | 1 => ⟨S8x3x64x64, .f32⟩
  | 2 => ⟨S313, .f32⟩
  | 3 => ⟨S313x2, .f32⟩
  | 4 => ⟨S8x1x64x64, .f32⟩
  | 5 => ⟨S8x64x64, .f32⟩
  | 6 => ⟨S8x1x64x64, .f32⟩
  | 7 => ⟨S8x64x64, .f32⟩
  | 8 => ⟨S8x4096, .f32⟩
  | 9 => ⟨S8x4096, .f32⟩
  | 10 => ⟨S313x1, .f32⟩
  | 11 => ⟨S313, .f32⟩
  | 12 => ⟨S1x1x313, .f32⟩
  | 13 => ⟨S8x4096x1, .f32⟩
  | 14 => ⟨S8x4096x313, .f32⟩
  | 15 => ⟨S8x4096x313, .f32⟩
  | 16 => ⟨S8x4096x313, .f32⟩
  | 17 => ⟨S8x4096x313, .f32⟩
  | 18 => ⟨S313x1, .f32⟩
  | 19 => ⟨S313, .f32⟩
  | 20 => ⟨S1x1x313, .f32⟩
  | 21 => ⟨S8x4096x1, .f32⟩
  | 22 => ⟨S8x4096x313, .f32⟩
  | 23 => ⟨S8x4096x313, .f32⟩
  | 24 => ⟨S8x4096x313, .f32⟩
  | 25 => ⟨S8x4096x313, .f32⟩
  | 26 => ⟨S8x4096x313, .f32⟩
  | 27 => ⟨S8x4096x313, .f32⟩
  | 28 => ⟨S8x4096x313, .f32⟩
  | 29 => ⟨S8x4096x5, .f32⟩
  | 30 => ⟨S8x4096x5, .i32⟩
  | 31 => ⟨S8x64x64x5, .i32⟩
  | 32 => ⟨S8x64x64x1, .i32⟩
  | 33 => ⟨S8x64x64, .i32⟩
  | 34 => ⟨S_, .i32⟩
  | 35 => ⟨S8x64x64, .i32⟩
  | 36 => ⟨S8x64x64, .i1⟩
  | 37 => ⟨S_, .i32⟩
  | 38 => ⟨S8x64x64, .i32⟩
  | 39 => ⟨S8x64x64, .i32⟩
  | 40 => ⟨S8x64x64, .i32⟩
  | 41 => ⟨S_, .i32⟩
  | 42 => ⟨S8x64x64, .i32⟩
  | 43 => ⟨S8x64x64, .i32⟩
  | 44 => ⟨S8x64x64x1, .i32⟩
  | 45 => ⟨S8x64x64x1, .i32⟩
  | 46 => ⟨S8x64x64x2, .i32⟩
  | 47 => ⟨S8x64x64, .f32⟩
  | 48 => ⟨S8x64x64x1, .i32⟩
  | 49 => ⟨S8x64x64, .i32⟩
  | 50 => ⟨S_, .i32⟩
  | 51 => ⟨S8x64x64, .i32⟩
  | 52 => ⟨S8x64x64, .i1⟩
  | 53 => ⟨S_, .i32⟩
  | 54 => ⟨S8x64x64, .i32⟩
  | 55 => ⟨S8x64x64, .i32⟩
  | 56 => ⟨S8x64x64, .i32⟩
  | 57 => ⟨S_, .i32⟩
  | 58 => ⟨S8x64x64, .i32⟩
  | 59 => ⟨S8x64x64, .i32⟩
  | 60 => ⟨S8x64x64x1, .i32⟩
  | 61 => ⟨S8x64x64x1, .i32⟩
  | 62 => ⟨S8x64x64x2, .i32⟩
  | 63 => ⟨S8x64x64, .f32⟩
  | 64 => ⟨S8x64x64, .f32⟩
  | 65 => ⟨S8x64x64, .f32⟩
  | 66 => ⟨S8x64x64, .f32⟩
  | 67 => ⟨S8x64x64, .f32⟩
  | 68 => ⟨S8x64x64, .f32⟩
  | 69 => ⟨S8x64x64, .f32⟩
  | 70 => ⟨S8x64x64, .f32⟩
  | 71 => ⟨S8x64x64, .f32⟩
  | 72 => ⟨S_, .f32⟩
  | 73 => ⟨S8x64x64, .f32⟩
  | 74 => ⟨S8x64x64, .f32⟩
  | 75 => ⟨S8x64x64, .f32⟩
  | 76 => ⟨S8x64x64x1, .i32⟩
  | 77 => ⟨S8x64x64, .i32⟩
  | 78 => ⟨S_, .i32⟩
  | 79 => ⟨S8x64x64, .i32⟩
  | 80 => ⟨S8x64x64, .i1⟩
  | 81 => ⟨S_, .i32⟩
  | 82 => ⟨S8x64x64, .i32⟩
  | 83 => ⟨S8x64x64, .i32⟩
  | 84 => ⟨S8x64x64, .i32⟩
  | 85 => ⟨S_, .i32⟩
  | 86 => ⟨S8x64x64, .i32⟩
  | 87 => ⟨S8x64x64, .i32⟩
  | 88 => ⟨S8x64x64x1, .i32⟩
  | 89 => ⟨S8x64x64x1, .i32⟩
  | 90 => ⟨S8x64x64x2, .i32⟩
  | 91 => ⟨S8x64x64, .f32⟩
  | 92 => ⟨S8x64x64x1, .i32⟩
  | 93 => ⟨S8x64x64, .i32⟩
  | 94 => ⟨S_, .i32⟩
  | 95 => ⟨S8x64x64, .i32⟩
  | 96 => ⟨S8x64x64, .i1⟩
  | 97 => ⟨S_, .i32⟩
  | 98 => ⟨S8x64x64, .i32⟩
  | 99 => ⟨S8x64x64, .i32⟩
  | 100 => ⟨S8x64x64, .i32⟩
  | 101 => ⟨S_, .i32⟩
  | 102 => ⟨S8x64x64, .i32⟩
  | 103 => ⟨S8x64x64, .i32⟩
  | 104 => ⟨S8x64x64x1, .i32⟩
  | 105 => ⟨S8x64x64x1, .i32⟩
  | 106 => ⟨S8x64x64x2, .i32⟩
  | 107 => ⟨S8x64x64, .f32⟩
  | 108 => ⟨S8x64x64, .f32⟩
  | 109 => ⟨S8x64x64, .f32⟩
  | 110 => ⟨S8x64x64, .f32⟩
  | 111 => ⟨S8x64x64, .f32⟩
  | 112 => ⟨S8x64x64, .f32⟩
  | 113 => ⟨S8x64x64, .f32⟩
  | 114 => ⟨S8x64x64, .f32⟩
  | 115 => ⟨S8x64x64, .f32⟩
  | 116 => ⟨S_, .f32⟩
  | 117 => ⟨S8x64x64, .f32⟩
  | 118 => ⟨S8x64x64, .f32⟩
  | 119 => ⟨S8x64x64, .f32⟩
  | 120 => ⟨S8x64x64x1, .i32⟩
  | 121 => ⟨S8x64x64, .i32⟩
  | 122 => ⟨S_, .i32⟩
  | 123 => ⟨S8x64x64, .i32⟩
  | 124 => ⟨S8x64x64, .i1⟩
  | 125 => ⟨S_, .i32⟩
  | 126 => ⟨S8x64x64, .i32⟩
  | 127 => ⟨S8x64x64, .i32⟩
  | _ => ⟨S8x64x64x313, .f32⟩

abbrev hbmTy0_1 (i : Nat) : BufTy := match i % 128 with
  | 0 => ⟨S8x64x64, .i32⟩
  | 1 => ⟨S_, .i32⟩
  | 2 => ⟨S8x64x64, .i32⟩
  | 3 => ⟨S8x64x64, .i32⟩
  | 4 => ⟨S8x64x64x1, .i32⟩
  | 5 => ⟨S8x64x64x1, .i32⟩
  | 6 => ⟨S8x64x64x2, .i32⟩
  | 7 => ⟨S8x64x64, .f32⟩
  | 8 => ⟨S8x64x64x1, .i32⟩
  | 9 => ⟨S8x64x64, .i32⟩
  | 10 => ⟨S_, .i32⟩
  | 11 => ⟨S8x64x64, .i32⟩
  | 12 => ⟨S8x64x64, .i1⟩
  | 13 => ⟨S_, .i32⟩
  | 14 => ⟨S8x64x64, .i32⟩
  | 15 => ⟨S8x64x64, .i32⟩
  | 16 => ⟨S8x64x64, .i32⟩
  | 17 => ⟨S_, .i32⟩
  | 18 => ⟨S8x64x64, .i32⟩
  | 19 => ⟨S8x64x64, .i32⟩
  | 20 => ⟨S8x64x64x1, .i32⟩
  | 21 => ⟨S8x64x64x1, .i32⟩
  | 22 => ⟨S8x64x64x2, .i32⟩
  | 23 => ⟨S8x64x64, .f32⟩
  | 24 => ⟨S8x64x64, .f32⟩
  | 25 => ⟨S8x64x64, .f32⟩
  | 26 => ⟨S8x64x64, .f32⟩
  | 27 => ⟨S8x64x64, .f32⟩
  | 28 => ⟨S8x64x64, .f32⟩
  | 29 => ⟨S8x64x64, .f32⟩
  | 30 => ⟨S8x64x64, .f32⟩
  | 31 => ⟨S8x64x64, .f32⟩
  | 32 => ⟨S_, .f32⟩
  | 33 => ⟨S8x64x64, .f32⟩
  | 34 => ⟨S8x64x64, .f32⟩
  | 35 => ⟨S8x64x64, .f32⟩
  | 36 => ⟨S8x64x64x1, .i32⟩
  | 37 => ⟨S8x64x64, .i32⟩
  | 38 => ⟨S_, .i32⟩
  | 39 => ⟨S8x64x64, .i32⟩
  | 40 => ⟨S8x64x64, .i1⟩
  | 41 => ⟨S_, .i32⟩
  | 42 => ⟨S8x64x64, .i32⟩
  | 43 => ⟨S8x64x64, .i32⟩
  | 44 => ⟨S8x64x64, .i32⟩
  | 45 => ⟨S_, .i32⟩
  | 46 => ⟨S8x64x64, .i32⟩
  | 47 => ⟨S8x64x64, .i32⟩
  | 48 => ⟨S8x64x64x1, .i32⟩
  | 49 => ⟨S8x64x64x1, .i32⟩
  | 50 => ⟨S8x64x64x2, .i32⟩
  | 51 => ⟨S8x64x64, .f32⟩
  | 52 => ⟨S8x64x64x1, .i32⟩
  | 53 => ⟨S8x64x64, .i32⟩
  | 54 => ⟨S_, .i32⟩
  | 55 => ⟨S8x64x64, .i32⟩
  | 56 => ⟨S8x64x64, .i1⟩
  | 57 => ⟨S_, .i32⟩
  | 58 => ⟨S8x64x64, .i32⟩
  | 59 => ⟨S8x64x64, .i32⟩
  | 60 => ⟨S8x64x64, .i32⟩
  | 61 => ⟨S_, .i32⟩
  | 62 => ⟨S8x64x64, .i32⟩
  | 63 => ⟨S8x64x64, .i32⟩
  | 64 => ⟨S8x64x64x1, .i32⟩
  | 65 => ⟨S8x64x64x1, .i32⟩
  | 66 => ⟨S8x64x64x2, .i32⟩
  | 67 => ⟨S8x64x64, .f32⟩
  | 68 => ⟨S8x64x64, .f32⟩
  | 69 => ⟨S8x64x64, .f32⟩
  | 70 => ⟨S8x64x64, .f32⟩
  | 71 => ⟨S8x64x64, .f32⟩
  | 72 => ⟨S8x64x64, .f32⟩
  | 73 => ⟨S8x64x64, .f32⟩
  | 74 => ⟨S8x64x64, .f32⟩
  | 75 => ⟨S8x64x64, .f32⟩
  | 76 => ⟨S_, .f32⟩
  | 77 => ⟨S8x64x64, .f32⟩
  | 78 => ⟨S8x64x64, .f32⟩
  | 79 => ⟨S8x64x64, .f32⟩
  | 80 => ⟨S8x64x64x1, .i32⟩
  | 81 => ⟨S8x64x64, .i32⟩
  | 82 => ⟨S_, .i32⟩
  | 83 => ⟨S8x64x64, .i32⟩
  | 84 => ⟨S8x64x64, .i1⟩
  | 85 => ⟨S_, .i32⟩
  | 86 => ⟨S8x64x64, .i32⟩
  | 87 => ⟨S8x64x64, .i32⟩
  | 88 => ⟨S8x64x64, .i32⟩
  | 89 => ⟨S_, .i32⟩
  | 90 => ⟨S8x64x64, .i32⟩
  | 91 => ⟨S8x64x64, .i32⟩
  | 92 => ⟨S8x64x64x1, .i32⟩
  | 93 => ⟨S8x64x64x1, .i32⟩
  | 94 => ⟨S8x64x64x2, .i32⟩
  | 95 => ⟨S8x64x64, .f32⟩
  | 96 => ⟨S8x64x64x1, .i32⟩
  | 97 => ⟨S8x64x64, .i32⟩
  | 98 => ⟨S_, .i32⟩
  | 99 => ⟨S8x64x64, .i32⟩
  | 100 => ⟨S8x64x64, .i1⟩
  | 101 => ⟨S_, .i32⟩
  | 102 => ⟨S8x64x64, .i32⟩
  | 103 => ⟨S8x64x64, .i32⟩
  | 104 => ⟨S8x64x64, .i32⟩
  | 105 => ⟨S_, .i32⟩
  | 106 => ⟨S8x64x64, .i32⟩
  | 107 => ⟨S8x64x64, .i32⟩
  | 108 => ⟨S8x64x64x1, .i32⟩
  | 109 => ⟨S8x64x64x1, .i32⟩
  | 110 => ⟨S8x64x64x2, .i32⟩
  | 111 => ⟨S8x64x64, .f32⟩
  | 112 => ⟨S8x64x64, .f32⟩
  | 113 => ⟨S8x64x64, .f32⟩
  | 114 => ⟨S8x64x64, .f32⟩
  | 115 => ⟨S8x64x64, .f32⟩
  | 116 => ⟨S8x64x64, .f32⟩
  | 117 => ⟨S8x64x64, .f32⟩
  | 118 => ⟨S8x64x64, .f32⟩
  | 119 => ⟨S8x64x64, .f32⟩
  | 120 => ⟨S_, .f32⟩
  | 121 => ⟨S8x64x64, .f32⟩
  | 122 => ⟨S8x64x64, .f32⟩
  | 123 => ⟨S8x64x64, .f32⟩
  | 124 => ⟨S8x64x64x1, .f32⟩
  | 125 => ⟨S8x64x64x1, .f32⟩
  | 126 => ⟨S8x64x64x1, .f32⟩
  | 127 => ⟨S8x64x64x1, .f32⟩
  | _ => ⟨S8x64x64x313, .f32⟩

abbrev hbmTy0_2 (i : Nat) : BufTy := match i % 128 with
  | 0 => ⟨S8x64x64x1, .f32⟩
  | 1 => ⟨S8x64x64x5, .f32⟩
  | 2 => ⟨S_, .f32⟩
  | 3 => ⟨S8x64x64, .f32⟩
  | 4 => ⟨S8x64x64x1, .f32⟩
  | 5 => ⟨S8x64x64x5, .f32⟩
  | 6 => ⟨S8x64x64x5, .f32⟩
  | 7 => ⟨S_, .f32⟩
  | 8 => ⟨S8x64x64x313, .f32⟩
  | 9 => ⟨S_, .i32⟩
  | 10 => ⟨S1, .i32⟩
  | 11 => ⟨S8x64x64x313, .f32⟩
  | 12 => ⟨S32768x313, .f32⟩
  | 13 => ⟨S32768x313, .f32⟩
  | 14 => ⟨S_, .f32⟩
  | 15 => ⟨S32768, .f32⟩
  | 16 => ⟨S_, .f32⟩
  | 17 => ⟨S32768, .f32⟩
  | 18 => ⟨S32768, .f32⟩
  | 19 => ⟨S32768x1, .f32⟩
  | 20 => ⟨S32768x313, .f32⟩
  | 21 => ⟨S32768x313, .f32⟩
  | 22 => ⟨S32768x313, .f32⟩
  | 23 => ⟨S_, .f32⟩
  | 24 => ⟨S32768, .f32⟩
  | 25 => ⟨S32768x1, .f32⟩
  | 26 => ⟨S32768x1, .f32⟩
  | 27 => ⟨S32768x313, .f32⟩
  | 28 => ⟨S32768x313, .f32⟩
  | 29 => ⟨S1x313, .f32⟩
  | 30 => ⟨S32768x313, .f32⟩
  | 31 => ⟨S32768x313, .f32⟩
  | 32 => ⟨S32768x313, .f32⟩
  | 33 => ⟨S_, .f32⟩
  | 34 => ⟨S32768, .f32⟩
  | 35 => ⟨S32768, .f32⟩
  | 36 => ⟨S_, .f32⟩
  | 37 => ⟨S_, .f32⟩
  | 38 => ⟨S_, .f32⟩
  | 39 => ⟨S_, .f32⟩
  | _ => ⟨S8x64x64x313, .f32⟩

abbrev hbmTy (i : Nat) : BufTy := match i / 128 with
  | 0 => hbmTy0_0 i
  | 1 => hbmTy0_1 i
  | 2 => hbmTy0_2 i
  | _ => ⟨S8x64x64x313, .f32⟩

abbrev bufTy : (tb : Table) → Fin (tcTables nBuf tb) → BufTy
  | .hbm, ⟨i, _⟩ => hbmTy i
  | _, _ => ⟨S8x64x64x313, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_values : Ref sig .tc := ⟨.hbm, 29, rfl⟩
abbrev main_indices : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_c_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_2 : Ref sig .tc := ⟨.hbm, 50, rfl⟩
abbrev main_v41 : Ref sig .tc := ⟨.hbm, 51, rfl⟩
abbrev main_v42 : Ref sig .tc := ⟨.hbm, 52, rfl⟩
abbrev main_c_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c_5 : Ref sig .tc := ⟨.hbm, 78, rfl⟩
abbrev main_v65 : Ref sig .tc := ⟨.hbm, 79, rfl⟩
abbrev main_v66 : Ref sig .tc := ⟨.hbm, 80, rfl⟩
abbrev main_c_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c_7 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_c_8 : Ref sig .tc := ⟨.hbm, 94, rfl⟩
abbrev main_v78 : Ref sig .tc := ⟨.hbm, 95, rfl⟩
abbrev main_v79 : Ref sig .tc := ⟨.hbm, 96, rfl⟩
abbrev main_c_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_c_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_11 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_c_12 : Ref sig .tc := ⟨.hbm, 122, rfl⟩
abbrev main_v102 : Ref sig .tc := ⟨.hbm, 123, rfl⟩
abbrev main_v103 : Ref sig .tc := ⟨.hbm, 124, rfl⟩
abbrev main_c_13 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_c_14 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_c_15 : Ref sig .tc := ⟨.hbm, 138, rfl⟩
abbrev main_v115 : Ref sig .tc := ⟨.hbm, 139, rfl⟩
abbrev main_v116 : Ref sig .tc := ⟨.hbm, 140, rfl⟩
abbrev main_c_16 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_c_17 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_18 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_c_19 : Ref sig .tc := ⟨.hbm, 166, rfl⟩
abbrev main_v139 : Ref sig .tc := ⟨.hbm, 167, rfl⟩
abbrev main_v140 : Ref sig .tc := ⟨.hbm, 168, rfl⟩
abbrev main_c_20 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_c_21 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_c_22 : Ref sig .tc := ⟨.hbm, 182, rfl⟩
abbrev main_v152 : Ref sig .tc := ⟨.hbm, 183, rfl⟩
abbrev main_v153 : Ref sig .tc := ⟨.hbm, 184, rfl⟩
abbrev main_c_23 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_c_24 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_25 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_c_26 : Ref sig .tc := ⟨.hbm, 210, rfl⟩
abbrev main_v176 : Ref sig .tc := ⟨.hbm, 211, rfl⟩
abbrev main_v177 : Ref sig .tc := ⟨.hbm, 212, rfl⟩
abbrev main_c_27 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_c_28 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_c_29 : Ref sig .tc := ⟨.hbm, 226, rfl⟩
abbrev main_v189 : Ref sig .tc := ⟨.hbm, 227, rfl⟩
abbrev main_v190 : Ref sig .tc := ⟨.hbm, 228, rfl⟩
abbrev main_c_30 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_c_31 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_cst_32 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_cst_33 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_cst_34 : Ref sig .tc := ⟨.hbm, 263, rfl⟩
abbrev main_v221 : Ref sig .tc := ⟨.hbm, 264, rfl⟩
abbrev main_c_35 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_call0_cst : Ref sig .tc := ⟨.hbm, 270, rfl⟩
abbrev main_call0_v0 : Ref sig .tc := ⟨.hbm, 271, rfl⟩
abbrev main_call0_cst_0 : Ref sig .tc := ⟨.hbm, 272, rfl⟩
abbrev main_call0_v1 : Ref sig .tc := ⟨.hbm, 273, rfl⟩
abbrev main_call0_v2 : Ref sig .tc := ⟨.hbm, 274, rfl⟩
abbrev main_call0_v3 : Ref sig .tc := ⟨.hbm, 275, rfl⟩
abbrev main_call0_v4 : Ref sig .tc := ⟨.hbm, 276, rfl⟩
abbrev main_call0_v5 : Ref sig .tc := ⟨.hbm, 277, rfl⟩
abbrev main_call0_v6 : Ref sig .tc := ⟨.hbm, 278, rfl⟩
abbrev main_call0_cst_1 : Ref sig .tc := ⟨.hbm, 279, rfl⟩
abbrev main_call0_v7 : Ref sig .tc := ⟨.hbm, 280, rfl⟩
abbrev main_call0_v8 : Ref sig .tc := ⟨.hbm, 281, rfl⟩
abbrev main_call0_v9 : Ref sig .tc := ⟨.hbm, 282, rfl⟩
abbrev main_call0_v10 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_cst_36 : Ref sig .tc := ⟨.hbm, 289, rfl⟩
abbrev main_v231 : Ref sig .tc := ⟨.hbm, 290, rfl⟩
abbrev main_v232 : Ref sig .tc := ⟨.hbm, 291, rfl⟩
abbrev main_cst_37 : Ref sig .tc := ⟨.hbm, 292, rfl⟩
abbrev main_v233 : Ref sig .tc := ⟨.hbm, 293, rfl⟩
abbrev main_cst_38 : Ref sig .tc := ⟨.hbm, 294, rfl⟩
abbrev main_v234 : Ref sig .tc := ⟨.hbm, 295, rfl⟩

abbrev nD : Nat := 1
abbrev τ : Topo := Topo.v7x

variable {F : FTy → Type} [FloatOps F]
-- ==== Proof.Ideals.lean ====
/- The real operations at finite values, the constants the programs spell as words, and the precondition read in words. -/
module

public import Idealize.ShloMosaic.Lib.IdealHost
public import Idealize.ShloMosaic.Lib.ValueIdx
public import Idealize.ShloMosaic.Lib.Pipeline.Value
public import proofs.«01_k».proof.Pre_inputs_in_range

@[expose] public section

noncomputable section

open scoped BigOperators
open Idealize.ShloMosaic Idealize.ShloMosaic.ValueIdx

namespace Cert.Real

theorem div_coe (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

theorem sqrt_coe {r : ℝ} (h : 0 ≤ r) : Ideal.sqrt (r : EReal) = (Real.sqrt r : EReal) := if_neg (not_lt.2 h)

theorem exp_coe (r : ℝ) : Ideal.exp (r : EReal) = (Real.exp r : EReal) := rfl

theorem log_coe {r : ℝ} (h : 0 < r) : Ideal.log (r : EReal) = (Real.log r : EReal) := if_neg (not_le.2 h)

theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem word_50 : Ideal.ofBits .f32 0x42480000#32 = ((50 : ℝ) : EReal) := by
  simp [Ideal.ofBits, Ideal.ieee, -EReal.coe_mul]; norm_num
theorem word_55 : Ideal.ofBits .f32 0x425C0000#32 = ((55 : ℝ) : EReal) := by
  simp [Ideal.ofBits, Ideal.ieee, -EReal.coe_mul]; norm_num
theorem word_32768 : Ideal.ofBits .f32 0x47000000#32 = ((32768 : ℝ) : EReal) := by
  simp [Ideal.ofBits, Ideal.ieee, -EReal.coe_mul]; norm_num
theorem word_top : Ideal.ofBits .f32 0x7F800000#32 = ⊤ := by
  simp [Ideal.ofBits, Ideal.ieee]
theorem word_bot : Ideal.ofBits .f32 0xFF800000#32 = ⊥ := by
  simp [Ideal.ofBits, Ideal.ieee]

/-- Of magnitude below infinity is real. -/
theorem real_of_abs_lt {x : EReal} (h : max x (-x) < ⊤) : ∃ r : ℝ, x = (r : EReal) := by
  induction x with
  | bot => simp at h
  | top => simp at h
  | coe r => exact ⟨r, rfl⟩

end Cert.Real

namespace Cert.Pre_inputs_in_range

open Cert.Real

/-- The shape relations of the precondition's operations. -/
instance facts : Facts where
  bcast_S_S8x64x64x313 := by decide
  slices_S8x3x64x64_S8x2x64x64_0_1_0_0 := by decide
  bcast_S_S8x2x64x64 := by decide
  slices_S313_S5_0 := by decide
  bcast_S_S5 := by decide
  slices_S8x3x64x64_S8x1x64x64_0_1_0_0 := by decide
  shapeCasts_S8x1x64x64_S8x64x64 := by decide
  bcast_S_S8x64x64 := by decide
  bcast_S_S313 := by decide
  bcast_S313_S313x1_0 := by decide
  concatenates_S313x1_S313x1_S313x2_d1 := by decide

variable (X0 : FVec Ideal S8x64x64x313 .f32) (X1 : FVec Ideal S8x3x64x64 .f32) (X2 : FVec Ideal S313 .f32) (X3 : FVec Ideal S313x2 .f32)

theorem bit_one {P : Prop} [Decidable P] (h : BitVec.ofBool (decide P) = 1#1) : P := by
  by_contra hc
  rw [decide_eq_false hc] at h
  exact absurd h (by decide)

theorem real_of_bit {x : EReal} (h : Ideal.cmp .olt (max x (-x)) (Ideal.ofBits .f32 0x7F800000#32) = 1#1) : ∃ r : ℝ, x = (r : EReal) := by
  rw [word_top] at h
  exact real_of_abs_lt (bit_one h)

/-- The logits are real. -/
theorem logits_real (h : (fn (F := Ideal) X0 X1 X2 X3).1 = fun _ => 1#1) (i : S8x64x64x313.Idx) : ∃ r : ℝ, X0 i = (r : EReal) :=
  real_of_bit (congrFun h i)

/-- The two colour channels are real. -/
theorem colour_real (h : (fn (F := Ideal) X0 X1 X2 X3).2.1 = fun _ => 1#1) (n : Fin 8) (k : Fin 2) (y x : Fin 64) :
    ∃ r : ℝ, X1 (ix4 n ⟨1 + k.val, by omega⟩ y x) = (r : EReal) := by
  have h1 := real_of_bit (congrFun h (ix4 n k y x))
  have e : (fun a => ⟨(![0, 1, 0, 0] : Fin 4 → ℕ) a + (ix4 n k y x (a.cast (facts.slices_S8x3x64x64_S8x2x64x64_0_1_0_0).1.symm)).val,
      Nat.lt_of_lt_of_le (Nat.add_lt_add_left (ix4 n k y x _).isLt _) ((facts.slices_S8x3x64x64_S8x2x64x64_0_1_0_0).2 a)⟩ : S8x3x64x64.Idx)
      = ix4 n ⟨1 + k.val, by omega⟩ y x := by
    funext a
    refine Fin.ext ?_
    match a with
    | ⟨0, _⟩ => exact Nat.zero_add _
    | ⟨1, _⟩ => rfl
    | ⟨2, _⟩ => exact Nat.zero_add _
    | ⟨3, _⟩ => exact Nat.zero_add _
  rw [← e]
  exact h1

/-- The first five weights are real. -/
theorem weights_real (h : (fn (F := Ideal) X0 X1 X2 X3).2.2.1 = fun _ => 1#1) (k : Fin 5) :
    ∃ r : ℝ, X2 (ix1 ⟨k.val, by omega⟩) = (r : EReal) := by
  have h1 := real_of_bit (congrFun h (ix1 k))
  have e : (fun a => ⟨(![0] : Fin 1 → ℕ) a + (ix1 k (a.cast (facts.slices_S313_S5_0).1.symm)).val,
      Nat.lt_of_lt_of_le (Nat.add_lt_add_left (ix1 k _).isLt _) ((facts.slices_S313_S5_0).2 a)⟩ : S313.Idx)
      = ix1 ⟨k.val, by omega⟩ := by
    funext a
    refine Fin.ext ?_
    match a with
    | ⟨0, _⟩ => exact Nat.zero_add _
  rw [← e]
  exact h1

/-- The column numbers of the table, as words. -/
def col0 : IVec S313 32 := addi (broadcastInDim S313 ![] facts.bcast_S_S313 (constantI S_ 32 4294967206#32))
  (muli (broadcastInDim S313 ![] facts.bcast_S_S313 (constantI S_ 32 10#32)) (fn_floor_divide (F := Ideal) (iotaInDim S313 32 0) (constantI S_ 32 18#32)))
def col1 : IVec S313 32 := addi (broadcastInDim S313 ![] facts.bcast_S_S313 (constantI S_ 32 4294967206#32))
  (muli (broadcastInDim S313 ![] facts.bcast_S_S313 (constantI S_ 32 10#32)) (fn_remainder (F := Ideal) (iotaInDim S313 32 0) (constantI S_ 32 18#32)))

theorem col0_at : ∀ c : Fin 313, (col0 (ix1 c)).toInt = -90 + 10 * ((c.val / 18 : ℕ) : ℤ) := by decide +kernel
theorem col1_at : ∀ c : Fin 313, (col1 (ix1 c)).toInt = -90 + 10 * ((c.val % 18 : ℕ) : ℤ) := by decide +kernel

/-- The table is the grid. -/
theorem table (h : (fn (F := Ideal) X0 X1 X2 X3).2.2.2.2 = fun _ => 1#1) (c : Fin 313) :
    X3 (ix2 c 0) = ((-90 + 10 * ((c.val / 18 : ℕ) : ℝ) : ℝ) : EReal) ∧ X3 (ix2 c 1) = ((-90 + 10 * ((c.val % 18 : ℕ) : ℝ) : ℝ) : EReal) := by
  have h0 : X3 (ix2 c 0) = (((col0 (ix1 c)).toInt : ℝ) : EReal) := bit_one (congrFun h (ix2 c 0))
  have h1 : X3 (ix2 c 1) = (((col1 (ix1 c)).toInt : ℝ) : EReal) := bit_one (congrFun h (ix2 c 1))
  rw [h0, h1, col0_at, col1_at]
  push_cast
  exact ⟨rfl, rfl⟩

/-- The first colour channel is at most 55. -/
theorem colour_le (h : (fn (F := Ideal) X0 X1 X2 X3).2.2.2.1 = fun _ => 1#1) (n : Fin 8) (y x : Fin 64) :
    X1 (ix4 n 1 y x) ≤ ((55 : ℝ) : EReal) := by
  have h1 : shapeCast S8x64x64 (extractStridedSlice S8x1x64x64 ![0, 1, 0, 0] X1 facts.slices_S8x3x64x64_S8x1x64x64_0_1_0_0)
      facts.shapeCasts_S8x1x64x64_S8x64x64 (ix3 n y x) ≤ Ideal.ofBits .f32 0x425C0000#32 := bit_one (congrFun h (ix3 n y x))
  rw [word_55, shapeCast_apply _ _ _ (ix4 n (0 : Fin 1) y x), extractStridedSlice_apply _ _ _ _ (ix4 n (1 : Fin 3) y x)] at h1
  · exact h1
  · intro a
    match a with
    | ⟨0, _⟩ => exact (Nat.zero_add _).symm
    | ⟨1, _⟩ => rfl
    | ⟨2, _⟩ => exact (Nat.zero_add _).symm
    | ⟨3, _⟩ => exact (Nat.zero_add _).symm
  · rw [Shape.rowMajor_val_three, Shape.rowMajor_val_four]
    show ((n.val * 1 + 0) * 64 + y.val) * 64 + x.val = (n.val * 64 + y.val) * 64 + x.val
    omega

end Cert.Pre_inputs_in_range

end
-- ==== Proof.Net.lean ====
/- The selection network as list functions: inserting into a sorted list, keeping the five smallest, and the merge that
   picks the five smallest sums. They are stated over any type with a `min` and a `max`, so the same functions read the
   kernel's whole vectors and one lane of them; `map_net` is the passage from the one to the other. -/
module

public import Mathlib.Data.List.Basic
public import Mathlib.Order.Lattice

@[expose] public section

namespace Cert.Net

variable {α β : Type}

/-- Put `e` into a sorted list: each place keeps the smaller value and hands the larger on. -/
def insertAll (mn mx : α → α → α) : List α → α → List α
  | [], e => [e]
  | s :: S, e => mn s e :: insertAll mn mx S (mx s e)

/-- The same, the last value handed on being dropped: the length stays. -/
def insertKeep (mn mx : α → α → α) : List α → α → List α
  | [], _ => []
  | s :: S, e => mn s e :: insertKeep mn mx S (mx s e)

/-- The five smallest of a list: the first five are inserted, the rest pushed through. -/
def bottom5 (mn mx : α → α → α) (vals : List α) : List α :=
  (vals.drop 5).foldl (insertKeep mn mx) ((vals.take 5).foldl (insertAll mn mx) [])

/-- From the five smallest `a`s and the five smallest `b`s, the five smallest sums. -/
def sums5 (add mn mx : α → α → α) : List α → List α → List α
  | [a0, a1, a2, a3, a4], [b0, b1, b2, b3, b4] =>
    bottom5 mn mx (List.zipWith mn [add a0 b0, add a0 b1, add a0 b2, add a0 b3, add a0 b4]
      (insertAll mn mx (insertAll mn mx [add a2 b0, add a3 b0, add a4 b0] (add a1 b0)) (add a1 b1)).reverse)
  | _, _ => []

theorem map_insertAll (f : α → β) (mn mx : α → α → α) (mn' mx' : β → β → β) (hn : ∀ x y, f (mn x y) = mn' (f x) (f y))
    (hx : ∀ x y, f (mx x y) = mx' (f x) (f y)) (S : List α) (e : α) :
    (insertAll mn mx S e).map f = insertAll mn' mx' (S.map f) (f e) := by
  induction S generalizing e with
  | nil => rfl
  | cons s S ih => simp only [insertAll, List.map_cons, hn, ih, hx]

theorem map_insertKeep (f : α → β) (mn mx : α → α → α) (mn' mx' : β → β → β) (hn : ∀ x y, f (mn x y) = mn' (f x) (f y))
    (hx : ∀ x y, f (mx x y) = mx' (f x) (f y)) (S : List α) (e : α) :
    (insertKeep mn mx S e).map f = insertKeep mn' mx' (S.map f) (f e) := by
  induction S generalizing e with
  | nil => rfl
  | cons s S ih => simp only [insertKeep, List.map_cons, hn, ih, hx]

theorem map_foldl (f : α → β) (g : List α → α → List α) (g' : List β → β → List β)
    (h : ∀ S e, (g S e).map f = g' (S.map f) (f e)) (l S : List α) :
    (l.foldl g S).map f = (l.map f).foldl g' (S.map f) := by
  induction l generalizing S with
  | nil => rfl
  | cons e l ih => simp only [List.foldl_cons, List.map_cons, ih, h]

theorem map_bottom5 (f : α → β) (mn mx : α → α → α) (mn' mx' : β → β → β) (hn : ∀ x y, f (mn x y) = mn' (f x) (f y))
    (hx : ∀ x y, f (mx x y) = mx' (f x) (f y)) (l : List α) :
    (bottom5 mn mx l).map f = bottom5 mn' mx' (l.map f) := by
  unfold bottom5
  rw [map_foldl f _ _ (map_insertKeep f mn mx mn' mx' hn hx), map_foldl f _ _ (map_insertAll f mn mx mn' mx' hn hx),
    List.map_drop, List.map_take, List.map_nil]

theorem map_sums5 (f : α → β) (add mn mx : α → α → α) (add' mn' mx' : β → β → β) (ha : ∀ x y, f (add x y) = add' (f x) (f y))
    (hn : ∀ x y, f (mn x y) = mn' (f x) (f y)) (hx : ∀ x y, f (mx x y) = mx' (f x) (f y)) (a b : List α) :
    (sums5 add mn mx a b).map f = sums5 add' mn' mx' (a.map f) (b.map f) := by
  unfold sums5
  split
  · simp only [List.map_cons, List.map_nil, map_bottom5 f mn mx mn' mx' hn hx, insertAll, List.reverse_cons,
      List.reverse_nil, List.nil_append, List.cons_append, List.zipWith_cons_cons, List.zipWith_nil_left, hn, hx, ha]
  · rename_i h
    split
    · rename_i h₁ h₂
      exfalso
      rcases a with _ | ⟨a0, _ | ⟨a1, _ | ⟨a2, _ | ⟨a3, _ | ⟨a4, _ | _⟩⟩⟩⟩⟩ <;> simp at h₁
      rcases b with _ | ⟨b0, _ | ⟨b1, _ | ⟨b2, _ | ⟨b3, _ | ⟨b4, _ | _⟩⟩⟩⟩⟩ <;> simp at h₂
      exact h _ _ _ _ _ _ _ _ _ _ rfl rfl
    · rfl

end Cert.Net
-- ==== Proof.Block.lean ====
/- What one grid step computes, as a function of the three blocks it reads: for each of its 4096 pixels the row's loss,
   and the sum of these over the block. The selection network is `Cert.Net`'s, read on whole vectors. -/
module

public import proofs.«01_k».proof.Proof.Net
public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.ShloMosaic.Tactic Idealize.SL.Sem
open Idealize.ShloMosaic.Pipeline (Dat)

namespace Cert.KernelIdeal.Value

open Cert.KernelIdeal Cert.KernelIdeal.Gen

variable {F : FTy → Type} [FloatOps F] [Named F]

/-- The words of −90, −80, …, 80. -/
def ticks : List (BitVec 32) :=
  [0xC2B40000#32, 0xC2A00000#32, 0xC28C0000#32, 0xC2700000#32, 0xC2480000#32, 0xC2200000#32, 0xC1F00000#32,
   0xC1A00000#32, 0xC1200000#32, 0x00000000#32, 0x41200000#32, 0x41A00000#32, 0x41F00000#32, 0x42200000#32,
   0x42480000#32, 0x42700000#32, 0x428C0000#32, 0x42A00000#32]

/-- The squared difference from one tick. -/
def sq (a : FVec F S4096 .f32) (k : BitVec 32) : FVec F S4096 .f32 :=
  mulf (subf (broadcast S4096 (Scalar.ofBits .f32 k)) a) (subf (broadcast S4096 (Scalar.ofBits .f32 k)) a)

/-- The five smallest squared differences of one channel. -/
def near (a : FVec F S4096 .f32) : List (FVec F S4096 .f32) := Net.bottom5 minimumf maximumf (ticks.map (sq a))

/-- The five smallest sums of squared differences. -/
def nearest (a b : FVec F S4096 .f32) : List (FVec F S4096 .f32) := Net.sums5 addf minimumf maximumf (near a) (near b)

/-- A squared distance's weight before normalisation. -/
def prob (s : FVec F S4096 .f32) : FVec F S4096 .f32 :=
  exp (mulf s (broadcast S4096 (Named.named κ "neg_inv_50" 0xBCA3D70A#32)))

/-- A running sum from zero. -/
def total (l : List (FVec F S4096 .f32)) : FVec F S4096 .f32 :=
  l.foldl addf (broadcast S4096 (Scalar.ofBits .f32 0x00000000#32))

def weighted (S : List (FVec F S4096 .f32)) (ws : List (F .f32)) : List (FVec F S4096 .f32) :=
  List.zipWith (fun s w => mulf (broadcast S4096 w) (prob s)) S ws

/-- The loss of each row: `(Σ w·p · lse − Σ w·p·z) / Σ p`. -/
def rowLoss (S : List (FVec F S4096 .f32)) (ws : List (F .f32)) (zs : List (FVec F S4096 .f32))
    (lse : FVec F S4096 .f32) : FVec F S4096 .f32 :=
  divf (subf (mulf (total (weighted S ws)) lse) (total (List.zipWith mulf (weighted S ws) zs))) (total (S.map prob))

/-- One of the eight rows of the packed block. -/
def packRow (x1 : Vec F S1x8x4096 .f32) (k : Nat) (h : ∀ a, (![0, k, 0] : Fin 3 → Nat) a + S1x1x4096.size a ≤ S1x8x4096.size a) :
    FVec F S4096 .f32 :=
  shapeCast S4096 (View.ld x1 (Rect.unit ![0, k, 0] S1x1x4096.size h)) shapeCasts_S1x1x4096_S4096

/-- One of the five class weights. -/
def weightAt (x0 : Vec F S5 .f32) (k : Nat) (h : ∀ a, (![k] : Fin 1 → Nat) a + S1.size a ≤ S5.size a) : F .f32 :=
  View.ld x0 (Rect.unit ![k] S1.size h) (Shape.Idx.first (numel1_S1.symm ▸ Nat.one_pos))

def weights (x0 : Vec F S5 .f32) : List (F .f32) :=
  [weightAt x0 0 inb_S5_S1_0, weightAt x0 1 inb_S5_S1_1, weightAt x0 2 inb_S5_S1_2, weightAt x0 3 inb_S5_S1_3,
   weightAt x0 4 inb_S5_S1_4]

def logits (x1 : Vec F S1x8x4096 .f32) : List (FVec F S4096 .f32) :=
  [packRow x1 2 inb_S1x8x4096_S1x1x4096_0_2_0, packRow x1 3 inb_S1x8x4096_S1x1x4096_0_3_0,
   packRow x1 4 inb_S1x8x4096_S1x1x4096_0_4_0, packRow x1 5 inb_S1x8x4096_S1x1x4096_0_5_0,
   packRow x1 6 inb_S1x8x4096_S1x1x4096_0_6_0]

/-- Every pixel's loss in one block. -/
def blockLoss (x0 : Vec F S5 .f32) (x1 : Vec F S1x8x4096 .f32) (x2 : Vec F S4096x313 .f32) : FVec F S4096 .f32 :=
  rowLoss (nearest (packRow x1 0 inb_S1x8x4096_S1x1x4096_0_0_0) (packRow x1 1 inb_S1x8x4096_S1x1x4096_0_1_0))
    (weights x0) (logits x1) (k0_pay3 x2)

/-- The sum of a block's losses, as the one-element vector the kernel adds to its accumulator. -/
def sumRows (v : FVec F S4096 .f32) : FVec F S1x1 .f32 :=
  broadcast S1x1 (extractAt ![0, 0] (shapeCast S1x1 (multiReduction .add [1] S1 (shapeCast S1x4096 v shapeCasts_S4096_S1x4096)
    0x00000000#32 reduces_S1x4096_S1 (.inl rfl) rfl) shapeCasts_S1_S1x1) inpos_S1x1_p0_0)

theorem hz : (![0, 0] : Fin 2 → Nat) = fun _ => 0 := funext fun a => by fin_cases a <;> rfl

theorem out_B (c : Dev nD) (i : grid0.Coords) (arg1 : Memref sig .tc .smem S5 .f32) (harg1 : arg1.IsWhole)
    (arg2 : Memref sig .tc .vmem S1x8x4096 .f32) (harg2 : arg2.IsWhole) (arg3 : Memref sig .tc .vmem S4096x313 .f32)
    (harg3 : arg3.IsWhole) (arg4 : Memref sig .tc .vmem S1x1 .f32) (harg4 : arg4.IsWhole) (hc0 : ¬cond0_0 i)
    (x0 : Vec F S5 .f32) (x1 : Vec F S1x8x4096 .f32) (x2 : Vec F S4096x313 .f32) (xo : Vec F S1x1 .f32) :
    out0_B_3 c i arg1 harg1 arg2 harg2 arg3 harg3 arg4 harg4 hc0 x0 x1 x2 xo = addf xo (sumRows (blockLoss x0 x1 x2)) := by
  unfold out0_B_3
  rw [View.read_writes_eq_canon _ _ _ (cover0_B_3 c i arg1 harg1 arg2 harg2 arg3 harg3 arg4 harg4 hc0 x0 x1 x2 xo)]
  unfold kernelRun0_B
  dsimp only
  rw [View.canon_unit_zero hz]
  unfold k0_pay2
  simp only [View.readAt_eq_ld, harg4.read_unread, View.ld_unit_zero (S := S1x1) hz, shapeCast_self]
  sl_unfold_words
  simp only [View.readAt_eq_ld, harg1.read_unread, harg2.read_unread, harg3.read_unread, View.ld_unit_zero (S := S4096x313) hz]
  sl_kernel_rfl

theorem out_A (c : Dev nD) (i : grid0.Coords) (arg1 : Memref sig .tc .smem S5 .f32) (harg1 : arg1.IsWhole)
    (arg2 : Memref sig .tc .vmem S1x8x4096 .f32) (harg2 : arg2.IsWhole) (arg3 : Memref sig .tc .vmem S4096x313 .f32)
    (harg3 : arg3.IsWhole) (arg4 : Memref sig .tc .vmem S1x1 .f32) (harg4 : arg4.IsWhole) (hc0 : cond0_0 i)
    (x0 : Vec F S5 .f32) (x1 : Vec F S1x8x4096 .f32) (x2 : Vec F S4096x313 .f32) :
    out0_A_3 c i arg1 harg1 arg2 harg2 arg3 harg3 arg4 harg4 hc0 x0 x1 x2
      = addf (k0_pay1 (F := F)) (sumRows (blockLoss x0 x1 x2)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero hz, View.readCov_unit_zero _ hz]
  unfold k0_pay2
  simp only [View.readAt_eq_ld, harg1.read_unread, harg2.read_unread, harg3.read_unread, View.ld_unit_zero (S := S4096x313) hz, shapeCast_self]
  sl_kernel_rfl

end Cert.KernelIdeal.Value
-- ==== Proof.KernelValue.lean ====
/- What the kernel's program leaves in its result: the eight blocks' sums added in order onto zero, divided by the number
   of rows; and the three blocks each grid step reads, in terms of the arguments. -/
module

public import proofs.«01_k».proof.Proof.Block
public import Idealize.ShloMosaic.Lib.Claim

@[expose] public section

noncomputable section

open Idealize.ShloMosaic Idealize.ShloMosaic.TcCoe Idealize.ShloMosaic.Tactic Idealize.SL.Sem
open Idealize.ShloMosaic.Pipeline (Dat)

namespace Cert.KernelIdeal.Value

open Cert.KernelIdeal Cert.KernelIdeal.Gen

variable {F : FTy → Type} [FloatOps F] [Named F]
variable (m : (ℓ : Loc nD τ sig) → Buf (Elt F) ℓ) (ρ : Dev nD → PrngReg)

/-- One step's contribution. -/
def blockSum (c : Dev nD) (t : Fin cfg0.N) : FVec F S1x1 .f32 :=
  sumRows (blockLoss (iblk m c 0 t) (iblk m c 1 t) (iblk m c 2 t))

/-- The accumulator after step `n`. -/
def running (c : Dev nD) : (n : ℕ) → n < cfg0.N → FVec F S1x1 .f32
  | 0, h => addf (k0_pay1 (F := F)) (blockSum m c ⟨0, h⟩)
  | n + 1, h => addf (running c n (Nat.lt_of_succ_lt h)) (blockSum m c ⟨n + 1, h⟩)

theorem outsAt_running (c : Dev nD) : ∀ (n : ℕ) (h : n < cfg0.N), outsAt0 m c n h = running m c n h
  | 0, h => (outsAt0_A m c ⟨0, h⟩ rfl).trans (out_A ..)
  | n + 1, h => by
    have hN : cfg0.N = 8 := N_0
    have hB : ¬(⟨n + 1, h⟩ : Fin cfg0.N).val % 8 = 0 := by dsimp only; omega
    rw [outsAt0_B m c ⟨n + 1, h⟩ hB, out_B]
    show addf (outsAt0 m c n _) _ = addf (running m c n _) _
    rw [outsAt_running c n]
    rfl

/-- The accumulator after the last step, as the contents of the region's result array. -/
def sum8 (c : Dev nD) : Buf (Elt F) ((c : Thread nD τ).loc main_v14) := running m c 7 (by rw [show cfg0.N = 8 from N_0]; decide)

theorem flushed_sum8 (c : Dev nD) (t : Fin cfg0.N) (hf : (cfg0.win 3).flush t = true) :
    (dats m 0 c).flushed 3 t = ((cfg0.win 3).blk t).view.read (Elt F) (sum8 m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3, outsAt_running]
  have h0 : (fun a => win0_3.index t0_7 a * main_v14.ty.shape.size a) = fun _ => 0 := funext fun a => by fin_cases a <;> decide
  exact (Memref.read_access_unit_zero (Elt F) main_v14 h0 (fun a => by rw [congrFun h0 a]; simp) (sum8 m c)).symm

theorem arr_sum8 (c : Dev nD) : (dats m 0 c).arrAt 3 cfg0.N = sum8 m c :=
  (dats m 0 c).arrAt_eq_of_cover 3 (sum8 m c) (flushed_sum8 m c) fun i =>
    ⟨t0_7, (flush0_3 t0_7).mpr rfl, by
      show i ∈ ((View.whole main_v14).slice (win0_3.rect t0_7)).set
      rw [View.set_slice_whole, Rect.mem_set_unit]
      have hix : ∀ a, win0_3.index t0_7 a * win0_3.size a = 0 := by decide +kernel
      have hsz : ∀ a, win0_3.xsize (grid0.coords t0_7) a = 1 := by decide +kernel
      intro a
      have hi : (i a : Nat) < S1x1.size a := (i a).isLt
      have h1 : S1x1.size a = 1 := by fin_cases a <;> rfl
      show win0_3.index t0_7 a * win0_3.size a ≤ (i a : Nat) ∧ (i a : Nat) < win0_3.index t0_7 a * win0_3.size a + win0_3.xsize (grid0.coords t0_7) a
      rw [hix a, hsz a]; omega⟩

/-- The three lines after the region: the sum as a scalar, over the number of rows. -/
theorem tail_v16 (X : Valuation τ sig (Elt F)) :
    StableHlo.after hostOps1 X (Proc.devRef .tc main_v16)
      = Host.divf (shapeCast S_ (X (Proc.devRef .tc main_v14) : FVec F S1x1 .f32) shapeCasts_S1x1_S_) (constant S_ .f32 0x47000000#32) := by
  unfold_abbrev_sides
  after_results
  rfl

/-- The result. -/
def outcome (c : Dev nD) : Buf (Elt F) ((c : Thread nD τ).loc main_v16) :=
  Host.divf (shapeCast S_ (sum8 m c : FVec F S1x1 .f32) shapeCasts_S1x1_S_) (constant S_ .f32 0x47000000#32)

theorem tail_outcome (c : Dev nD) : Pipeline.afterTail₀ cfgs (dats m) 0 (V0 m) [hostOps1] c main_v16 = outcome m c := by
  unfold Pipeline.afterTail₀ outcome
  rw [List.flatten_cons, List.flatten_nil, List.append_nil, tail_v16]
  rw [← arr_sum8]
  have h := Pipeline.withArrays_arr spec0 launch0.win.arr_inj c (V0 m c) (fun w => (dats m 0 c).arrAt w cfg0.N) 3
  exact congrArg (fun z => Host.divf (shapeCast S_ (z : FVec F S1x1 .f32) shapeCasts_S1x1_S_) (constant S_ .f32 0x47000000#32)) h

theorem run : θ_run defs (onTc (τ := τ) (main (F := F))) ⟨m, fun _ => 0, ρ⟩ fun r => ∀ c : Dev nD,
      r.2.mem ((c : Thread nD τ).loc main_v16) = outcome m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v16 (by decide)).trans (tail_outcome m c), h.2 c⟩)
    (θ_run_and (run_main m ρ) (unchanged m ρ))

theorem head_v0 (X : Valuation τ sig (Elt F)) : StableHlo.after hostOps0 X (Proc.devRef .tc main_v0)
    = shapeCast S32768x313 (X (Proc.devRef .tc main_arg0) : FVec F S8x64x64x313 .f32) shapeCasts_S8x64x64x313_S32768x313 := by
  unfold_abbrev_sides
  after_results
  rfl

theorem head_v13 (X : Valuation τ sig (Elt F)) : StableHlo.after hostOps0 X (Proc.devRef .tc main_v13)
    = extractStridedSlice S5 ![0] (X (Proc.devRef .tc main_arg2) : FVec F S313 .f32) slices_S313_S5_0 := by
  unfold_abbrev_sides
  after_results

theorem head_v12 (X : Valuation τ sig (Elt F)) : StableHlo.after hostOps0 X (Proc.devRef .tc main_v12)
    = transpose S8x8x4096 [1, 0, 2] (shapeCast S8x8x4096 (concatenate S8x32768 0
        [⟨S1x32768, shapeCast S1x32768 (shapeCast S8x64x64 (extractStridedSlice S8x1x64x64 ![0, 1, 0, 0]
            (X (Proc.devRef .tc main_arg1) : FVec F S8x3x64x64 .f32) slices_S8x3x64x64_S8x1x64x64_0_1_0_0)
            shapeCasts_S8x1x64x64_S8x64x64) shapeCasts_S8x64x64_S1x32768⟩,
         ⟨S1x32768, shapeCast S1x32768 (shapeCast S8x64x64 (extractStridedSlice S8x1x64x64 ![0, 2, 0, 0]
            (X (Proc.devRef .tc main_arg1) : FVec F S8x3x64x64 .f32) slices_S8x3x64x64_S8x1x64x64_0_2_0_0)
            shapeCasts_S8x1x64x64_S8x64x64) shapeCasts_S8x64x64_S1x32768⟩,
         ⟨S5x32768, transpose S5x32768 [1, 0] (extractStridedSlice S32768x5 ![0, 0]
            (shapeCast S32768x313 (X (Proc.devRef .tc main_arg0) : FVec F S8x64x64x313 .f32) shapeCasts_S8x64x64x313_S32768x313)
            slices_S32768x313_S32768x5_0_0) transposes_S32768x5_S5x32768_1_0⟩,
         ⟨S1x32768, broadcastInDim S1x32768 ![] bcast_S_S1x32768 (constant S_ .f32 0x00000000#32 : FVec F S_ .f32)⟩]
        concatenates_S1x32768_S1x32768_S5x32768_S1x32768_S8x32768_d0) shapeCasts_S8x32768_S8x8x4096) transposes_S8x8x4096_S8x8x4096_1_0_2 := by
  unfold_abbrev_sides
  after_results
  rfl

end Cert.KernelIdeal.Value
-- ==== Proof.Reads.lean ====
/- What the kernel's three input blocks hold at grid step `t`, read off the arguments: the five class weights, the packed
   channels of image `t`, and the logits of image `t`. Pixel `p` of the image is row `p / 64`, column `p % 64`. -/
module

public import proofs.«01_k».proof.Proof.KernelValue
public import Idealize.ShloMosaic.Lib.ValueIdxCore

@[expose] public section

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.Value

open Cert.KernelIdeal Cert.KernelIdeal.Gen

variable {F : FTy → Type} [FloatOps F] [Named F]
variable (m : (ℓ : Loc nD τ sig) → Buf (Elt F) ℓ)

/-- The image of a grid step. -/
def img (t : Fin cfg0.N) : Fin 8 := ⟨t.val, by have := t.isLt; have : cfg0.N = 8 := N_0; omega⟩
/-- A pixel's row. -/
def py (p : Fin 4096) : Fin 64 := ⟨p.val / 64, by omega⟩
/-- A pixel's column. -/
def px (p : Fin 4096) : Fin 64 := ⟨p.val % 64, by omega⟩
/-- A pixel's row number among all images' pixels. -/
def flat (n : Fin 8) (p : Fin 4096) : Fin 32768 := ⟨n.val * 4096 + p.val, by omega⟩

theorem index0 (t : Fin cfg0.N) : win0_0.index t 0 = 0 := by
  rcases fin_N0 t with rfl | rfl | rfl | rfl | rfl | rfl | rfl | rfl <;> decide

theorem index1 (t : Fin cfg0.N) : win0_1.index t 0 = t.val ∧ win0_1.index t 1 = 0 ∧ win0_1.index t 2 = 0 := by
  rcases fin_N0 t with rfl | rfl | rfl | rfl | rfl | rfl | rfl | rfl <;> decide

theorem index2 (t : Fin cfg0.N) : win0_2.index t 0 = t.val ∧ win0_2.index t 1 = 0 := by
  rcases fin_N0 t with rfl | rfl | rfl | rfl | rfl | rfl | rfl | rfl <;> decide

theorem blk0 (c : Dev nD) (t : Fin cfg0.N) (i : Fin 5) :
    (iblk m c 0 t : Vec F S5 .f32) (ix1 i) = (V m c main_v13 : Vec F S5 .f32) (ix1 i) := by
  have hi := index0 t
  unfold iblk
  rw [View.read_apply]
  show (V m c main_v13 : Vec F S5 .f32) _ = _
  congr 1
  funext a
  apply Fin.ext
  match a with
  | ⟨0, _⟩ => show win0_0.index t 0 * 5 + 1 * i.val = i.val; rw [hi]; omega

theorem blk1 (c : Dev nD) (t : Fin cfg0.N) (k : Fin 8) (p : Fin 4096) :
    (iblk m c 1 t : Vec F S1x8x4096 .f32) (ix3 0 k p) = (V m c main_v12 : Vec F S8x8x4096 .f32) (ix3 (img t) k p) := by
  have hi := index1 t
  unfold iblk
  rw [View.read_apply]
  show (V m c main_v12 : Vec F S8x8x4096 .f32) _ = _
  congr 1
  funext a
  apply Fin.ext
  match a with
  | ⟨0, _⟩ => show win0_1.index t 0 * 1 + 1 * 0 = t.val; rw [hi.1]; omega
  | ⟨1, _⟩ => show win0_1.index t 1 * 8 + 1 * k.val = k.val; rw [hi.2.1]; omega
  | ⟨2, _⟩ => show win0_1.index t 2 * 4096 + 1 * p.val = p.val; rw [hi.2.2]; omega

theorem blk2 (c : Dev nD) (t : Fin cfg0.N) (p : Fin 4096) (q : Fin 313) :
    (iblk m c 2 t : Vec F S4096x313 .f32) (ix2 p q) = (V m c main_v0 : Vec F S32768x313 .f32) (ix2 (flat (img t) p) q) := by
  have hi := index2 t
  unfold iblk
  rw [View.read_apply]
  show (V m c main_v0 : Vec F S32768x313 .f32) _ = _
  congr 1
  funext a
  apply Fin.ext
  match a with
  | ⟨0, _⟩ => show win0_2.index t 0 * 4096 + 1 * p.val = t.val * 4096 + p.val; rw [hi.1]; omega
  | ⟨1, _⟩ => show win0_2.index t 1 * 313 + 1 * q.val = q.val; rw [hi.2]; omega

/-- The four arguments. -/
abbrev A0 (c : Dev nD) : FVec F S8x64x64x313 .f32 := m ((c : Thread nD τ).loc main_arg0)
abbrev A1 (c : Dev nD) : FVec F S8x3x64x64 .f32 := m ((c : Thread nD τ).loc main_arg1)
abbrev A2 (c : Dev nD) : FVec F S313 .f32 := m ((c : Thread nD τ).loc main_arg2)

theorem weight_read (c : Dev nD) (t : Fin cfg0.N) (k : Fin 5)
    (h : ∀ a, (![k.val] : Fin 1 → Nat) a + S1.size a ≤ S5.size a) :
    weightAt (iblk m c 0 t : Vec F S5 .f32) k.val h = A2 m c (ix1 ⟨k.val, by omega⟩) := by
  have e : weightAt (iblk m c 0 t : Vec F S5 .f32) k.val h = (iblk m c 0 t : Vec F S5 .f32) (ix1 k) := by
    unfold weightAt
    show (iblk m c 0 t : Vec F S5 .f32) _ = _
    congr 1
    funext a
    apply Fin.ext
    match a with
    | ⟨0, _⟩ => show k.val + 1 * 0 = k.val; omega
  rw [e, blk0]
  show StableHlo.after hostOps0 _ (Proc.devRef .tc main_v13) _ = _
  rw [head_v13]
  refine extractStridedSlice_apply _ _ _ _ _ fun a => ?_
  match a with
  | ⟨0, _⟩ => exact (Nat.zero_add _).symm

theorem pixel_read {α : Type} (x : S8x64x64x313.Idx → α) (n : Fin 8) (p : Fin 4096) (q : Fin 313) :
    shapeCast S32768x313 x shapeCasts_S8x64x64x313_S32768x313 (ix2 (flat n p) q) = x (ix4 n (py p) (px p) q) := by
  refine shapeCast_apply _ _ _ _ ?_
  rw [Shape.rowMajor_val_two, Shape.rowMajor_val_four]
  show ((n.val * 64 + p.val / 64) * 64 + p.val % 64) * 313 + q.val = (n.val * 4096 + p.val) * 313 + q.val
  omega

theorem logit_read (c : Dev nD) (t : Fin cfg0.N) (p : Fin 4096) (q : Fin 313) :
    (iblk m c 2 t : Vec F S4096x313 .f32) (ix2 p q) = A0 m c (ix4 (img t) (py p) (px p) q) := by
  rw [blk2]
  show StableHlo.after hostOps0 _ (Proc.devRef .tc main_v0) _ = _
  rw [head_v0]
  exact pixel_read _ _ _ _

/-- Row `k` of the packed block at pixel `p`. -/
theorem pack_read (c : Dev nD) (t : Fin cfg0.N) (k : Fin 8) (p : Fin 4096)
    (h : ∀ a, (![0, k.val, 0] : Fin 3 → Nat) a + S1x1x4096.size a ≤ S1x8x4096.size a) :
    packRow (iblk m c 1 t : Vec F S1x8x4096 .f32) k.val h (ix1 p) = (V m c main_v12 : Vec F S8x8x4096 .f32) (ix3 (img t) k p) := by
  rw [← blk1]
  unfold packRow
  rw [shapeCast_apply _ _ _ (ix3 (0 : Fin 1) (0 : Fin 1) p) (by
    rw [Shape.rowMajor_val_three, Shape.rowMajor_val_one]
    show (0 * 1 + 0) * 4096 + p.val = p.val; omega)]
  show (iblk m c 1 t : Vec F S1x8x4096 .f32) _ = _
  congr 1
  funext a
  apply Fin.ext
  match a with
  | ⟨0, _⟩ => rfl
  | ⟨1, _⟩ => show k.val + 1 * 0 = k.val; omega
  | ⟨2, _⟩ => show 0 + 1 * p.val = p.val; omega

theorem plane_read (x : FVec F S8x3x64x64 .f32) (off : Fin 4 → Nat) (ch : Fin 3) (hoff : off = ![0, ch.val, 0, 0])
    (h : S8x3x64x64.Slices off S8x1x64x64) (n : Fin 8) (p : Fin 4096) :
    shapeCast S1x32768 (shapeCast S8x64x64 (extractStridedSlice S8x1x64x64 off x h)
      shapeCasts_S8x1x64x64_S8x64x64) shapeCasts_S8x64x64_S1x32768 (ix2 0 (flat n p)) = x (ix4 n ch (py p) (px p)) := by
  subst hoff
  rw [shapeCast_apply _ _ _ (ix3 n (py p) (px p)) (by
    rw [Shape.rowMajor_val_three, Shape.rowMajor_val_two]
    show (n.val * 64 + p.val / 64) * 64 + p.val % 64 = 0 * 32768 + (n.val * 4096 + p.val); omega)]
  rw [shapeCast_apply _ _ _ (ix4 n (0 : Fin 1) (py p) (px p)) (by
    rw [Shape.rowMajor_val_three, Shape.rowMajor_val_four]
    show ((n.val * 1 + 0) * 64 + p.val / 64) * 64 + p.val % 64 = (n.val * 64 + p.val / 64) * 64 + p.val % 64; omega)]
  refine extractStridedSlice_apply _ _ _ _ _ fun a => ?_
  match a with
  | ⟨0, _⟩ => exact (Nat.zero_add _).symm
  | ⟨1, _⟩ => rfl
  | ⟨2, _⟩ => exact (Nat.zero_add _).symm
  | ⟨3, _⟩ => exact (Nat.zero_add _).symm

/-- The packed array before blocking: read at (image `n`, row `k`, pixel `p`). -/
theorem blocked {α : Type} (x : S8x32768.Idx → α) (n k : Fin 8) (p : Fin 4096) :
    transpose S8x8x4096 [1, 0, 2] (shapeCast S8x8x4096 x shapeCasts_S8x32768_S8x8x4096) transposes_S8x8x4096_S8x8x4096_1_0_2
      (ix3 n k p) = x (ix2 k (flat n p)) := by
  rw [transpose_apply _ _ _ _ (ix3 k n p) (fun b => by match b with | ⟨0, _⟩ => rfl | ⟨1, _⟩ => rfl | ⟨2, _⟩ => rfl)]
  refine shapeCast_apply _ _ _ _ ?_
  rw [Shape.rowMajor_val_three, Shape.rowMajor_val_two]
  show k.val * 32768 + (n.val * 4096 + p.val) = (k.val * 8 + n.val) * 4096 + p.val
  omega

/-- The eight stacked rows, read in the piece that starts at row `pre`. -/
theorem stacked {α : Type} (xs : List ((s : Shape) × (s.Idx → α))) (h : Shape.Concatenates (xs.map (·.1)) S8x32768 0)
    (i : ℕ) (hi : i < xs.length) (n : ℕ) (x : (⟨2, ![n, 32768]⟩ : Shape).Idx → α) (hx : xs[i] = ⟨⟨2, ![n, 32768]⟩, x⟩) (pre : ℕ)
    (hpre : (((xs.take i).map (·.1)).map fun s => if h : s.rank = S8x32768.rank then s.size ((0 : Fin S8x32768.rank).cast h.symm) else 0).sum = pre)
    (k : Fin n) (k' : Fin 8) (hk : pre + k.val = k'.val) (r : Fin 32768) :
    concatenate S8x32768 0 xs h (ix2 k' r) = x (ix2 k r) := by
  refine concatenate_apply_piece _ _ _ (ix2 k' r) i hi ⟨2, ![n, 32768]⟩ x hx rfl pre hpre (ix2 k r) (fun b hb => ?_) (by exact hk)
  match b with
  | ⟨0, _⟩ => exact absurd rfl hb
  | ⟨1, _⟩ => rfl

theorem colour_read0 (c : Dev nD) (t : Fin cfg0.N) (p : Fin 4096) :
    packRow (iblk m c 1 t : Vec F S1x8x4096 .f32) 0 inb_S1x8x4096_S1x1x4096_0_0_0 (ix1 p)
      = A1 m c (ix4 (img t) 1 (py p) (px p)) := by
  refine (pack_read m c t 0 p inb_S1x8x4096_S1x1x4096_0_0_0).trans ?_
  show StableHlo.after hostOps0 _ (Proc.devRef .tc main_v12) _ = _
  rw [head_v12, blocked]
  exact Eq.trans (stacked _ _ 0 (by simp) 1 _ rfl 0 rfl 0 0 rfl _) (plane_read _ _ 1 rfl _ _ _)

theorem colour_read1 (c : Dev nD) (t : Fin cfg0.N) (p : Fin 4096) :
    packRow (iblk m c 1 t : Vec F S1x8x4096 .f32) 1 inb_S1x8x4096_S1x1x4096_0_1_0 (ix1 p)
      = A1 m c (ix4 (img t) 2 (py p) (px p)) := by
  refine (pack_read m c t 1 p inb_S1x8x4096_S1x1x4096_0_1_0).trans ?_
  show StableHlo.after hostOps0 _ (Proc.devRef .tc main_v12) _ = _
  rw [head_v12, blocked]
  exact Eq.trans (stacked _ _ 1 (by simp) 1 _ rfl 1 rfl 0 1 rfl _) (plane_read _ _ 2 rfl _ _ _)

theorem first_logits (c : Dev nD) (t : Fin cfg0.N) (k : Fin 5) (p : Fin 4096)
    (h : ∀ a, (![0, 2 + k.val, 0] : Fin 3 → Nat) a + S1x1x4096.size a ≤ S1x8x4096.size a) :
    packRow (iblk m c 1 t : Vec F S1x8x4096 .f32) (2 + k.val) h (ix1 p) = A0 m c (ix4 (img t) (py p) (px p) ⟨k.val, by omega⟩) := by
  refine (pack_read m c t ⟨2 + k.val, by omega⟩ p h).trans ?_
  show StableHlo.after hostOps0 _ (Proc.devRef .tc main_v12) _ = _
  rw [head_v12, blocked]
  refine Eq.trans (stacked _ _ 2 (by simp) 5 _ rfl 2 rfl k _ rfl _) ?_
  rw [transpose_apply _ _ _ _ (ix2 (flat (img t) p) k) (fun b => by match b with | ⟨0, _⟩ => rfl | ⟨1, _⟩ => rfl)]
  rw [extractStridedSlice_apply _ _ _ _ (ix2 (flat (img t) p) (⟨k.val, by omega⟩ : Fin 313)) (fun a => by
    match a with
    | ⟨0, _⟩ => exact (Nat.zero_add _).symm
    | ⟨1, _⟩ => exact (Nat.zero_add _).symm)]
  exact pixel_read _ _ _ _

end Cert.KernelIdeal.Value

end
-- ==== Proof.Order.lean ====
/- The selection network is right: over the reals, its five outputs are the five smallest, in order. "The five smallest of
   a family" is said by counting: an ordered list of five whose number of members below any bound is that of the family,
   or five. Two lists with the same counts are equal, so the network and a sort that agree on counts agree on values. -/
module

public import proofs.«01_k».proof.Proof.Net
public import Mathlib.Data.Real.Basic
public import Mathlib.Data.List.Perm.Basic
public import Mathlib.Tactic.Linarith
public import Mathlib.Algebra.BigOperators.Group.List.Basic

@[expose] public section

noncomputable section

namespace Cert.Order

open Cert.Net

/-- How many members are at most `x`. -/
def below (L : List ℝ) (x : ℝ) : ℕ := L.countP (fun a => decide (a ≤ x))

theorem below_nil (x : ℝ) : below [] x = 0 := rfl

theorem below_cons (a : ℝ) (L : List ℝ) (x : ℝ) : below (a :: L) x = (if a ≤ x then 1 else 0) + below L x := by
  unfold below
  rw [List.countP_cons, Nat.add_comm]
  simp only [decide_eq_true_eq]

theorem below_append (L M : List ℝ) (x : ℝ) : below (L ++ M) x = below L x + below M x := List.countP_append

theorem below_perm {L M : List ℝ} (h : L.Perm M) (x : ℝ) : below L x = below M x := h.countP_eq _

theorem below_le_length (L : List ℝ) (x : ℝ) : below L x ≤ L.length := List.countP_le_length

theorem below_eq_zero {L : List ℝ} {x : ℝ} (h : ∀ a ∈ L, x < a) : below L x = 0 := by
  unfold below
  rw [List.countP_eq_zero]
  intro a ha
  simpa using h a ha

/-- Ordered, smallest first. -/
abbrev Up (L : List ℝ) : Prop := L.Pairwise (· ≤ ·)

/-- The first `n` of an ordered list have as many members below a bound as the list, or `n`. -/
theorem below_take {L : List ℝ} (h : Up L) (n : ℕ) (x : ℝ) : below (L.take n) x = min n (below L x) := by
  induction L generalizing n with
  | nil => simp [below_nil]
  | cons a L ih =>
    cases n with
    | zero => simp [below_nil]
    | succ n =>
      rw [List.take_succ_cons, below_cons, below_cons, ih (List.pairwise_cons.1 h).2]
      split_ifs with hx
      · omega
      · have : below L x = 0 := below_eq_zero fun b hb => lt_of_lt_of_le (not_le.1 hx) ((List.pairwise_cons.1 h).1 b hb)
        omega

theorem insertAll_perm (S : List ℝ) (e : ℝ) : (insertAll min max S e).Perm (e :: S) := by
  induction S generalizing e with
  | nil => exact List.Perm.refl _
  | cons s S ih =>
    refine ((ih (max s e)).cons (min s e)).trans ?_
    rcases le_total s e with h | h
    · rw [min_eq_left h, max_eq_right h]; exact List.Perm.swap _ _ _
    · rw [min_eq_right h, max_eq_left h]

theorem insertAll_up {S : List ℝ} (h : Up S) (e : ℝ) : Up (insertAll min max S e) := by
  induction S generalizing e with
  | nil => exact List.pairwise_singleton _ _
  | cons s S ih =>
    have hs := List.pairwise_cons.1 h
    refine List.pairwise_cons.2 ⟨fun b hb => ?_, ih hs.2 _⟩
    rcases List.mem_cons.1 ((insertAll_perm S (max s e)).mem_iff.1 hb) with rfl | hb
    · exact min_le_max
    · exact (min_le_left _ _).trans (hs.1 b hb)

theorem insertKeep_eq (S : List ℝ) (e : ℝ) : insertKeep min max S e = (insertAll min max S e).take S.length := by
  induction S generalizing e with
  | nil => rfl
  | cons s S ih => simp only [insertKeep, insertAll, List.length_cons, List.take_succ_cons, ih]

theorem below_insertAll (S : List ℝ) (e x : ℝ) : below (insertAll min max S e) x = (if e ≤ x then 1 else 0) + below S x := by
  rw [below_perm (insertAll_perm S e), below_cons]

/-- `S` is the ordered list of the five smallest of a family with `c x` members below `x`. -/
structure Five (S : List ℝ) (c : ℝ → ℕ) : Prop where
  up : Up S
  length : S.length = 5
  below : ∀ x, below S x = min 5 (c x)

theorem Five.congr {S : List ℝ} {c c' : ℝ → ℕ} (h : Five S c) (hc : ∀ x, min 5 (c x) = min 5 (c' x)) : Five S c' :=
  ⟨h.up, h.length, fun x => (h.below x).trans (hc x)⟩

theorem eq_of_below {S T : List ℝ} (hS : Up S) (hT : Up T) (h : ∀ x, below S x = below T x) : S = T := by
  induction S generalizing T with
  | nil =>
    cases T with
    | nil => rfl
    | cons b T => have := h b; rw [below_nil, below_cons, if_pos le_rfl] at this; omega
  | cons a S ih =>
    cases T with
    | nil => have := h a; rw [below_nil, below_cons, if_pos le_rfl] at this; omega
    | cons b T =>
      have hS' := List.pairwise_cons.1 hS
      have hT' := List.pairwise_cons.1 hT
      have key : ∀ (a b : ℝ) (T : List ℝ), (∀ t ∈ T, b ≤ t) → below (b :: T) a ≠ 0 → b ≤ a := by
        intro a b T hb hne
        by_contra hc
        exact hne (below_eq_zero fun t ht => by
          rcases List.mem_cons.1 ht with rfl | ht
          · exact not_le.1 hc
          · exact lt_of_lt_of_le (not_le.1 hc) (hb t ht))
      have hba : b ≤ a := key a b T hT'.1 (by rw [← h, below_cons, if_pos le_rfl]; omega)
      have hab : a ≤ b := key b a S hS'.1 (by rw [h, below_cons, if_pos le_rfl]; omega)
      obtain rfl := le_antisymm hab hba
      rw [ih hS'.2 hT'.2 fun x => by have := h x; rw [below_cons, below_cons] at this; omega]

theorem Five.unique {S T : List ℝ} {c : ℝ → ℕ} (hS : Five S c) (hT : Five T c) : S = T :=
  eq_of_below hS.up hT.up fun x => (hS.below x).trans (hT.below x).symm

theorem foldl_insertAll (l : List ℝ) : ∀ S : List ℝ, Up S → Up (l.foldl (insertAll min max) S)
    ∧ (l.foldl (insertAll min max) S).length = l.length + S.length
    ∧ ∀ x, below (l.foldl (insertAll min max) S) x = below l x + below S x := by
  induction l with
  | nil => exact fun S h => ⟨h, by simp, fun x => by simp [below_nil]⟩
  | cons e l ih =>
    intro S h
    obtain ⟨h1, h2, h3⟩ := ih _ (insertAll_up h e)
    refine ⟨h1, ?_, fun x => ?_⟩
    · rw [List.foldl_cons, h2, (insertAll_perm S e).length_eq]; simp only [List.length_cons]; omega
    · rw [List.foldl_cons, h3, below_insertAll, below_cons]; omega

theorem foldl_insertKeep (l : List ℝ) : ∀ (S : List ℝ) (c : ℝ → ℕ), Five S c →
    Five (l.foldl (insertKeep min max) S) (fun x => below l x + c x) := by
  induction l with
  | nil => exact fun S c h => h.congr fun x => by simp [below_nil]
  | cons e l ih =>
    intro S c h
    refine (ih (insertKeep min max S e) (fun x => (if e ≤ x then 1 else 0) + c x) ?_).congr fun x => by
      rw [below_cons]; congr 1; omega
    rw [insertKeep_eq, h.length]
    refine ⟨(insertAll_up h.up e).sublist (List.take_sublist _ _), ?_, fun x => ?_⟩
    · rw [List.length_take, (insertAll_perm S e).length_eq, List.length_cons, h.length]; rfl
    · rw [below_take (insertAll_up h.up e), below_insertAll, h.below]; split_ifs <;> omega

/-- The network's first stage. -/
theorem bottom5_five (l : List ℝ) (h : 5 ≤ l.length) : Five (bottom5 min max l) (below l) := by
  obtain ⟨h1, h2, h3⟩ := foldl_insertAll (l.take 5) [] List.Pairwise.nil
  refine (foldl_insertKeep (l.drop 5) _ (below (l.take 5)) ⟨h1, ?_, fun x => ?_⟩).congr fun x => ?_
  · rw [h2, List.length_take]; simp; omega
  · rw [h3, below_nil]
    have := below_le_length (l.take 5) x
    rw [List.length_take] at this
    omega
  · rw [Nat.add_comm, ← below_append, List.take_append_drop]

/-- How many pairs' sums are at most `x`. -/
def pairs (A B : List ℝ) (x : ℝ) : ℕ := (A.map fun a => below B (x - a)).sum

theorem pairs_cons (a : ℝ) (A B : List ℝ) (x : ℝ) : pairs (a :: A) B x = below B (x - a) + pairs A B x := by
  simp [pairs]

theorem pairs_swap (A B : List ℝ) (x : ℝ) : pairs A B x = pairs B A x := by
  induction A with
  | nil => induction B with
    | nil => rfl
    | cons b B ih => rw [pairs_cons, ← ih]; simp [pairs, below_nil]
  | cons a A ih =>
    rw [pairs_cons, ih]
    clear ih
    induction B with
    | nil => simp [pairs, below_nil]
    | cons b B ih =>
      rw [pairs_cons, pairs_cons, below_cons, below_cons, ← ih]
      have : (b ≤ x - a) ↔ (a ≤ x - b) := ⟨fun h => by linarith, fun h => by linarith⟩
      simp only [this]
      omega

/-- Only the five smallest of one family matter to the five smallest sums. -/
theorem pairs_five (A B S : List ℝ) (h : Five S (below B)) (x : ℝ) : min 5 (pairs A B x) = min 5 (pairs A S x) := by
  induction A with
  | nil => rfl
  | cons a A ih =>
    rw [pairs_cons, pairs_cons, h.below]
    omega

theorem five_eq {S : List ℝ} {c : ℝ → ℕ} (h : Five S c) : ∃ a b d e f, S = [a, b, d, e, f] ∧ a ≤ b ∧ b ≤ d ∧ d ≤ e ∧ e ≤ f := by
  have hl := h.length
  have hu := h.up
  rcases S with _ | ⟨a, _ | ⟨b, _ | ⟨d, _ | ⟨e, _ | ⟨f, _ | _⟩⟩⟩⟩⟩ <;> simp at hl
  simp only [Up, List.pairwise_cons, List.mem_cons] at hu
  exact ⟨a, b, d, e, f, rfl, hu.1 _ (.inl rfl), hu.2.1 _ (.inl rfl), hu.2.2.1 _ (.inl rfl), hu.2.2.2.1 _ (.inl rfl)⟩

/-- Five falling zeros and ones are so many ones and then zeros. -/
theorem falling {u0 u1 u2 u3 u4 : ℕ} (h : u0 ≤ 1) (h0 : u1 ≤ u0) (h1 : u2 ≤ u1) (h2 : u3 ≤ u2) (h3 : u4 ≤ u3) :
    ∃ p : Fin 6, u0 = (if 0 < p.val then 1 else 0) ∧ u1 = (if 1 < p.val then 1 else 0) ∧ u2 = (if 2 < p.val then 1 else 0)
      ∧ u3 = (if 3 < p.val then 1 else 0) ∧ u4 = (if 4 < p.val then 1 else 0) := by
  refine ⟨⟨u0 + u1 + u2 + u3 + u4, by omega⟩, ?_, ?_, ?_, ?_, ?_⟩ <;> (dsimp only; split_ifs <;> omega)

/-- The half-cleaner: of two ordered lists of five, the minima of one against the other reversed are the five smallest. -/
theorem below_halves {a0 a1 a2 a3 a4 d0 d1 d2 d3 d4 : ℝ} (ha0 : a0 ≤ a1) (ha1 : a1 ≤ a2) (ha2 : a2 ≤ a3) (ha3 : a3 ≤ a4)
    (hd0 : d0 ≤ d1) (hd1 : d1 ≤ d2) (hd2 : d2 ≤ d3) (hd3 : d3 ≤ d4) (x : ℝ) :
    below [min a0 d4, min a1 d3, min a2 d2, min a3 d1, min a4 d0] x
      = min 5 (below [a0, a1, a2, a3, a4] x + below [d0, d1, d2, d3, d4] x) := by
  have step : ∀ {p q : ℝ}, p ≤ q → (if q ≤ x then 1 else 0 : ℕ) ≤ (if p ≤ x then 1 else 0 : ℕ) := by
    intro p q h
    split_ifs with h1 h2
    · exact le_rfl
    · exact absurd (h.trans h1) h2
    · exact Nat.zero_le _
    · exact le_rfl
  have one : ∀ p : ℝ, (if p ≤ x then 1 else 0 : ℕ) ≤ 1 := by intro p; split_ifs <;> omega
  have mn : ∀ p q : ℝ, (if min p q ≤ x then 1 else 0 : ℕ) = max (if p ≤ x then 1 else 0 : ℕ) (if q ≤ x then 1 else 0 : ℕ) := by
    intro p q
    by_cases h1 : p ≤ x <;> by_cases h2 : q ≤ x <;> simp [h1, h2]
  simp only [below_cons, below_nil, mn]
  have h1 := step ha0; have h2 := step ha1; have h3 := step ha2; have h4 := step ha3
  have h5 := step hd0; have h6 := step hd1; have h7 := step hd2; have h8 := step hd3
  have h9 := one a0; have h10 := one d0
  clear ha0 ha1 ha2 ha3 hd0 hd1 hd2 hd3 step one mn
  obtain ⟨p, e0, e1, e2, e3, e4⟩ := falling h9 h1 h2 h3 h4
  obtain ⟨q, f0, f1, f2, f3, f4⟩ := falling h10 h5 h6 h7 h8
  rw [e0, e1, e2, e3, e4, f0, f1, f2, f3, f4]
  clear h1 h2 h3 h4 h5 h6 h7 h8 h9 h10 e0 e1 e2 e3 e4 f0 f1 f2 f3 f4
  revert p q
  decide

/-- Of the twenty-five sums of two ordered fives, ten hold the five smallest. -/
theorem pairs_ten {a0 a1 a2 a3 a4 b0 b1 b2 b3 b4 : ℝ} (ha0 : a0 ≤ a1) (ha1 : a1 ≤ a2) (ha2 : a2 ≤ a3) (ha3 : a3 ≤ a4)
    (hb0 : b0 ≤ b1) (hb1 : b1 ≤ b2) (hb2 : b2 ≤ b3) (hb3 : b3 ≤ b4) (x : ℝ) :
    min 5 (pairs [a0, a1, a2, a3, a4] [b0, b1, b2, b3, b4] x)
      = min 5 (below [a0 + b0, a0 + b1, a0 + b2, a0 + b3, a0 + b4] x
          + below [a1 + b0, a1 + b1, a2 + b0, a3 + b0, a4 + b0] x) := by
  have mv : ∀ p q : ℝ, (q ≤ x - p) = (p + q ≤ x) := fun p q => propext ⟨fun h => by linarith, fun h => by linarith⟩
  simp only [pairs_cons, show ∀ B, pairs [] B x = 0 from fun B => rfl, below_cons, below_nil, mv]
  by_cases h12 : a1 + b2 ≤ x
  · have e1 : a0 + b0 ≤ x := by linarith
    have e2 : a0 + b1 ≤ x := by linarith
    have e3 : a0 + b2 ≤ x := by linarith
    have e4 : a1 + b0 ≤ x := by linarith
    have e5 : a1 + b1 ≤ x := by linarith
    rw [if_pos e1, if_pos e2, if_pos e3, if_pos e4, if_pos e5]
    omega
  · by_cases h21 : a2 + b1 ≤ x
    · have e1 : a0 + b0 ≤ x := by linarith
      have e2 : a0 + b1 ≤ x := by linarith
      have e3 : a2 + b0 ≤ x := by linarith
      have e4 : a1 + b0 ≤ x := by linarith
      have e5 : a1 + b1 ≤ x := by linarith
      rw [if_pos e1, if_pos e2, if_pos e3, if_pos e4, if_pos e5]
      omega
    · rw [if_neg h12, if_neg h21, if_neg (show ¬ a1 + b3 ≤ x by linarith), if_neg (show ¬ a1 + b4 ≤ x by linarith),
        if_neg (show ¬ a2 + b2 ≤ x by linarith), if_neg (show ¬ a2 + b3 ≤ x by linarith), if_neg (show ¬ a2 + b4 ≤ x by linarith),
        if_neg (show ¬ a3 + b1 ≤ x by linarith), if_neg (show ¬ a3 + b2 ≤ x by linarith), if_neg (show ¬ a3 + b3 ≤ x by linarith), if_neg (show ¬ a3 + b4 ≤ x by linarith),
        if_neg (show ¬ a4 + b1 ≤ x by linarith), if_neg (show ¬ a4 + b2 ≤ x by linarith), if_neg (show ¬ a4 + b3 ≤ x by linarith), if_neg (show ¬ a4 + b4 ≤ x by linarith)]
      omega

/-- The whole network: the five smallest sums of one member of each family. -/
theorem sums5_five (A B : List ℝ) (hA : 5 ≤ A.length) (hB : 5 ≤ B.length) :
    Five (sums5 (· + ·) min max (bottom5 min max A) (bottom5 min max B)) (pairs A B) := by
  have fA := bottom5_five A hA
  have fB := bottom5_five B hB
  have hp : ∀ x, min 5 (pairs A B x) = min 5 (pairs (bottom5 min max A) (bottom5 min max B) x) := fun x => by
    rw [pairs_five A B _ fB, pairs_swap, pairs_five _ A _ fA, pairs_swap]
  obtain ⟨a0, a1, a2, a3, a4, eA, ha0, ha1, ha2, ha3⟩ := five_eq fA
  obtain ⟨b0, b1, b2, b3, b4, eB, hb0, hb1, hb2, hb3⟩ := five_eq fB
  rw [eA, eB] at hp ⊢
  have hD : Up [a2 + b0, a3 + b0, a4 + b0] := by
    simp only [Up, List.pairwise_cons, List.mem_cons, List.not_mem_nil, or_false]
    exact ⟨by rintro _ (rfl | rfl) <;> linarith, by rintro _ rfl; linarith, by simp, List.Pairwise.nil⟩
  have hD2 := insertAll_up (insertAll_up hD (a1 + b0)) (a1 + b1)
  have hDb : ∀ x, below (insertAll min max (insertAll min max [a2 + b0, a3 + b0, a4 + b0] (a1 + b0)) (a1 + b1)) x
      = below [a1 + b0, a1 + b1, a2 + b0, a3 + b0, a4 + b0] x := fun x => by
    simp only [below_insertAll, below_cons, below_nil]; omega
  obtain ⟨d0, d1, d2, d3, d4, eD, hd0, hd1, hd2, hd3⟩ := five_eq (S := insertAll min max (insertAll min max [a2 + b0, a3 + b0, a4 + b0] (a1 + b0)) (a1 + b1))
    (c := below (insertAll min max (insertAll min max [a2 + b0, a3 + b0, a4 + b0] (a1 + b0)) (a1 + b1)))
    ⟨hD2, rfl, fun x => (min_eq_right (below_le_length _ x)).symm⟩
  have e : sums5 (· + ·) min max [a0, a1, a2, a3, a4] [b0, b1, b2, b3, b4]
      = bottom5 min max [min (a0 + b0) d4, min (a0 + b1) d3, min (a0 + b2) d2, min (a0 + b3) d1, min (a0 + b4) d0] := by
    unfold sums5
    dsimp only
    rw [eD]
    rfl
  rw [e]
  refine (bottom5_five _ (by simp)).congr fun x => ?_
  rw [hp, pairs_ten ha0 ha1 ha2 ha3 hb0 hb1 hb2 hb3, ← hDb, eD,
    below_halves (by linarith) (by linarith) (by linarith) (by linarith) hd0 hd1 hd2 hd3]
  omega

end Cert.Order

end
-- ==== Proof.Select.lean ====
/- The two selections agree: the five smallest distances the network finds on the whole 18 by 18 grid, and the first five
   of a sort of the 313 points the table holds, when the first colour is at most 55. -/
module

public import proofs.«01_k».proof.Proof.Order
public import Idealize.ShloMosaic.Lib.SortFacts

@[expose] public section

noncomputable section

namespace Cert.Order

open Cert.Net Idealize.ShloMosaic

theorem pairs_append (A A' B : List ℝ) (x : ℝ) : pairs (A ++ A') B x = pairs A B x + pairs A' B x := by
  simp [pairs]

/-- The sums of two families over `p` and `q` numbers, as one family over `p * q`. -/
theorem pairs_range (f g : ℕ → ℝ) (p q : ℕ) (hq : 0 < q) (x : ℝ) :
    pairs ((List.range p).map f) ((List.range q).map g) x = below ((List.range (p * q)).map fun n => f (n / q) + g (n % q)) x := by
  induction p with
  | zero => simp [pairs, below_nil]
  | succ p ih =>
    rw [List.range_succ, List.map_append, pairs_append, ih, Nat.succ_mul, List.range_add, List.map_append, below_append]
    congr 1
    rw [List.map_singleton, pairs_cons, show pairs [] ((List.range q).map g) x = 0 from rfl, Nat.add_zero]
    unfold below
    rw [List.countP_map, List.map_map, List.countP_map]
    refine List.countP_congr fun j hj => ?_
    have hj : j < q := List.mem_range.1 hj
    simp only [Function.comp_apply, decide_eq_true_eq]
    rw [show (p * q + j) / q = p by rw [Nat.mul_comm, Nat.mul_add_div hq, Nat.div_eq_of_lt hj, Nat.add_zero],
      show (p * q + j) % q = j by rw [Nat.mul_comm, Nat.mul_add_mod, Nat.mod_eq_of_lt hj]]
    exact ⟨fun h => by linarith, fun h => by linarith⟩

/-- The grid's `i`-th coordinate. -/
def tick (i : ℕ) : ℝ := -90 + 10 * (i : ℝ)

/-- The squared distance of a colour from grid point `n`. -/
def dist2 (α β : ℝ) (n : ℕ) : ℝ := (tick (n / 18) - α) * (tick (n / 18) - α) + (tick (n % 18) - β) * (tick (n % 18) - β)

/-- Among the first 313 points are five no farther than any of the last eleven. -/
theorem dominated {α β : ℝ} (h : α ≤ 55) (j : ℕ) (h7 : 7 ≤ j) (hj : j < 18) (i : ℕ) (hi : 12 ≤ i) (hi' : i < 17) :
    dist2 α β (18 * i + j) ≤ dist2 α β (306 + j) := by
  have e1 : (18 * i + j) / 18 = i := by omega
  have e2 : (18 * i + j) % 18 = j := by omega
  have e3 : (306 + j) / 18 = 17 := by omega
  have e4 : (306 + j) % 18 = j := by omega
  have h1 : (12 : ℝ) ≤ (i : ℝ) := by exact_mod_cast hi
  have h2 : (i : ℝ) ≤ 16 := by exact_mod_cast (by omega : i ≤ 16)
  unfold dist2 tick
  rw [e1, e2, e3, e4]
  push_cast
  nlinarith

/-- So the whole grid has the same five smallest as the first 313 points. -/
theorem below_313 {α β : ℝ} (h : α ≤ 55) (x : ℝ) :
    min 5 (below ((List.range 324).map (dist2 α β)) x) = min 5 (below ((List.range 313).map (dist2 α β)) x) := by
  have hs : List.range 324 = List.range 313 ++ (List.range 11).map (313 + ·) := List.range_add (n := 313) (m := 11)
  rw [hs, List.map_append, below_append]
  by_cases hx : below (((List.range 11).map (313 + ·)).map (dist2 α β)) x = 0
  · rw [hx, Nat.add_zero]
  · have hex : ∃ a ∈ ((List.range 11).map (313 + ·)).map (dist2 α β), a ≤ x := by
      by_contra hc
      push Not at hc
      exact hx (below_eq_zero hc)
    obtain ⟨a, ha, hax⟩ := hex
    rw [List.map_map, List.mem_map] at ha
    obtain ⟨k, hk, rfl⟩ := ha
    have hk : k < 11 := List.mem_range.1 hk
    have hd : dist2 α β (306 + (7 + k)) ≤ x := by rw [show 306 + (7 + k) = 313 + k by omega]; exact hax
    have h5 : 5 ≤ below ((List.range 313).map (dist2 α β)) x := by
      have hsub : ([18 * 12 + (7 + k), 18 * 13 + (7 + k), 18 * 14 + (7 + k), 18 * 15 + (7 + k), 18 * 16 + (7 + k)] : List ℕ).Sublist (List.range 313) := by
        refine List.sublist_of_subperm_of_pairwise (r := (· < ·)) ?_ ?_ List.pairwise_lt_range
        · refine List.subperm_of_subset ?_ ?_
          · simp
          · intro n hn
            simp only [List.mem_cons, List.not_mem_nil, or_false] at hn
            rw [List.mem_range]
            omega
        · simp
      refine le_trans ?_ (List.Sublist.countP_le (p := fun a => decide (a ≤ x)) (hsub.map (dist2 α β)))
      have hi : ∀ i, 12 ≤ i → i < 17 → dist2 α β (18 * i + (7 + k)) ≤ x := fun i h1 h2 =>
        (dominated h (7 + k) (by omega) (by omega) i h1 h2).trans hd
      show 5 ≤ below _ x
      simp only [List.map_cons, List.map_nil, below_cons, below_nil]
      rw [if_pos (hi 12 (by omega) (by omega)), if_pos (hi 13 (by omega) (by omega)), if_pos (hi 14 (by omega) (by omega)),
        if_pos (hi 15 (by omega) (by omega)), if_pos (hi 16 (by omega) (by omega))]
    omega

/-- What the kernel's network finds. -/
def found (α β : ℝ) : List ℝ :=
  sums5 (· + ·) min max (bottom5 min max ((List.range 18).map fun i => (tick i - α) * (tick i - α)))
    (bottom5 min max ((List.range 18).map fun i => (tick i - β) * (tick i - β)))

theorem found_five {α β : ℝ} (h : α ≤ 55) : Five (found α β) (below ((List.range 313).map (dist2 α β))) := by
  refine (sums5_five _ _ (by simp) (by simp)).congr fun x => ?_
  rw [pairs_range _ _ 18 18 (by decide)]
  exact below_313 h x

/-- The first five of a sort by a key that orders as `D` does. -/
theorem sorted_five (D : ℕ → ℝ) (B : Fin 313 → Fin 313 → Bool) (hB : ∀ i j, B i j = true ↔ D i.val < D j.val) :
    Five (List.ofFn fun k : Fin 5 => D (sortedFrom B (k.castLE (by decide))).val) (below ((List.range 313).map D)) := by
  have hf : ∀ i j, B i j = false ↔ D j.val ≤ D i.val := fun i j => by
    rw [← not_lt, ← hB, Bool.not_eq_true]
  have hup : Up ((sortPositions 313 B).map fun i => D i.val) := by
    rw [Up, List.pairwise_map]
    refine (pairwise_stableSort B B (fun a b h => ?_) (fun _ _ h => h) (fun a b c h1 h2 => ?_) _).imp fun h => (hf _ _).1 h
    · rw [hf]; exact ((hB _ _).1 h).le
    · rw [hf] at *; exact h2.trans h1
  have hperm : ((sortPositions 313 B).map fun i => D i.val).Perm ((List.range 313).map D) := by
    refine ((perm_sortPositions 313 B).map _).trans (List.Perm.of_eq ?_)
    rw [← List.map_coe_finRange_eq_range, List.map_map]
    rfl
  have he : (List.ofFn fun k : Fin 5 => D (sortedFrom B (k.castLE (by decide))).val) = ((sortPositions 313 B).map fun i => D i.val).take 5 := by
    refine List.ext_getElem ?_ fun n h1 h2 => ?_
    · simp [length_sortPositions]
    · rw [List.getElem_ofFn, List.getElem_take, List.getElem_map]
      rfl
  rw [he]
  exact ⟨hup.sublist (List.take_sublist _ _), by simp [length_sortPositions], fun x => by rw [below_take hup, below_perm hperm]⟩

/-- The kernel's five are the sort's five. -/
theorem found_eq {α β : ℝ} (h : α ≤ 55) (B : Fin 313 → Fin 313 → Bool)
    (hB : ∀ i j, B i j = true ↔ dist2 α β i.val < dist2 α β j.val) :
    found α β = List.ofFn fun k : Fin 5 => dist2 α β (sortedFrom B (k.castLE (by decide))).val :=
  (found_five h).unique (sorted_five _ B hB)

end Cert.Order

end
-- ==== Proof.Lane.lean ====
/- One lane of the kernel's arithmetic over the reals: the selection network reads the five smallest squared distances, the
   loss is the quotient of weighted sums, and the log-sum-exp is the logarithm of a finite sum. -/
module

public import proofs.«01_k».proof.Proof.Block
public import proofs.«01_k».proof.Proof.Select
public import proofs.«01_k».proof.Proof.Ideals
public import Idealize.ShloMosaic.Lib.MatmulPlain

@[expose] public section

noncomputable section

open scoped BigOperators
open Idealize.ShloMosaic Idealize.ShloMosaic.ValueIdx

namespace Cert.KernelIdeal.Value

open Cert.KernelIdeal Cert.KernelIdeal.Gen Cert.Order

/-- A row's loss from its five squared distances, class weights and logits, and its log-sum-exp. -/
def loss (s ω ζ : Fin 5 → ℝ) (L : ℝ) : ℝ :=
  ((∑ k, ω k * Real.exp (-s k / 50)) * L - ∑ k, ω k * Real.exp (-s k / 50) * ζ k) / ∑ k, Real.exp (-s k / 50)

theorem neg_inv_50 : Named.named (F := Ideal) κ "neg_inv_50" (φ := .f32) 0xBCA3D70A#32 = ((-1 / 50 : ℝ) : EReal) :=
  IdealRules.named_const.ideal_named_scalar _ _ _ _ rfl

theorem tick_words : ticks.map (Ideal.ofBits .f32) = (List.range 18).map fun i => ((tick i : ℝ) : EReal) := by
  simp only [ticks, List.map_cons, List.map_nil, List.range, List.range.loop, tick]
  simp only [List.cons.injEq, and_true]
  refine ⟨?_, ?_, ?_, ?_, ?_, ?_, ?_, ?_, ?_, ?_, ?_, ?_, ?_, ?_, ?_, ?_, ?_, ?_⟩ <;>
    (simp [Ideal.ofBits, Ideal.ieee, -EReal.coe_mul, -EReal.coe_add, -EReal.coe_neg]; try norm_num)

theorem coe_min' (x y : ℝ) : ((min x y : ℝ) : EReal) = min (x : EReal) y := Monotone.map_min EReal.coe_strictMono.monotone
theorem coe_max' (x y : ℝ) : ((max x y : ℝ) : EReal) = max (x : EReal) y := Monotone.map_max EReal.coe_strictMono.monotone

/-- The five smallest squared differences of one channel, at one lane. -/
theorem near_lane (a : FVec Ideal S4096 .f32) (p : S4096.Idx) (α : ℝ) (ha : a p = (α : EReal)) :
    (near a).map (fun v => v p)
      = (Net.bottom5 min max ((List.range 18).map fun i => (tick i - α) * (tick i - α))).map fun r : ℝ => (r : EReal) := by
  rw [Net.map_bottom5 (fun r : ℝ => (r : EReal)) min max min max coe_min' coe_max']
  unfold near
  rw [Net.map_bottom5 (fun v : FVec Ideal S4096 .f32 => v p) minimumf maximumf min max (fun _ _ => rfl) (fun _ _ => rfl)]
  congr 1
  rw [List.map_map, List.map_map]
  have e : ((fun v : FVec Ideal S4096 .f32 => v p) ∘ sq a)
      = (fun x : EReal => (x - (α : EReal)) * (x - (α : EReal))) ∘ Ideal.ofBits .f32 := by
    funext k
    show (Ideal.ofBits .f32 k - a p) * (Ideal.ofBits .f32 k - a p) = _
    rw [ha]; rfl
  rw [e, ← List.map_map, tick_words, List.map_map]
  refine List.map_congr_left fun i _ => ?_
  show ((tick i : ℝ) - (α : EReal)) * ((tick i : ℝ) - (α : EReal)) = _
  rw [← EReal.coe_sub, ← EReal.coe_mul]; rfl

/-- The five smallest squared distances, at one lane. -/
theorem nearest_lane (a b : FVec Ideal S4096 .f32) (p : S4096.Idx) (α β : ℝ) (ha : a p = (α : EReal)) (hb : b p = (β : EReal)) :
    (nearest a b).map (fun v => v p) = (found α β).map fun r : ℝ => (r : EReal) := by
  unfold nearest found
  rw [Net.map_sums5 (fun v : FVec Ideal S4096 .f32 => v p) addf minimumf maximumf (· + ·) min max (fun _ _ => rfl) (fun _ _ => rfl) (fun _ _ => rfl),
    Net.map_sums5 (fun r : ℝ => (r : EReal)) (· + ·) min max (· + ·) min max EReal.coe_add coe_min' coe_max',
    near_lane a p α ha, near_lane b p β hb]

theorem zero_word : (Scalar.ofBits .f32 0x00000000#32 : Ideal .f32) = ((0 : ℝ) : EReal) := Ideal.ofBits_zero_f32
theorem one_word : (Scalar.ofBits .f32 0x3F800000#32 : Ideal .f32) = ((1 : ℝ) : EReal) := Ideal.ofBits_one_f32

theorem prob_lane (v : FVec Ideal S4096 .f32) (p : S4096.Idx) (s : ℝ) (h : v p = (s : EReal)) :
    prob v p = ((Real.exp (-s / 50) : ℝ) : EReal) := by
  show Ideal.exp (v p * Named.named (F := Ideal) κ "neg_inv_50" (φ := .f32) 0xBCA3D70A#32) = _
  rw [h, neg_inv_50, ← EReal.coe_mul, Cert.Real.exp_coe, show s * (-1 / 50) = -s / 50 by ring]

/-- The loss of a lane whose entries are real. -/
theorem rowLoss_lane (S : List (FVec Ideal S4096 .f32)) (ws : List EReal) (zs : List (FVec Ideal S4096 .f32))
    (lse : FVec Ideal S4096 .f32) (p : S4096.Idx) (s ω ζ : Fin 5 → ℝ) (L : ℝ)
    (hS : S.map (fun v => v p) = List.ofFn fun k => ((s k : ℝ) : EReal))
    (hw : ws = List.ofFn fun k => ((ω k : ℝ) : EReal)) (hz : zs.map (fun v => v p) = List.ofFn fun k => ((ζ k : ℝ) : EReal))
    (hl : lse p = (L : EReal)) : rowLoss (F := Ideal) S ws zs lse p = ((loss s ω ζ L : ℝ) : EReal) := by
  have l1 : S.length = 5 := by simpa using congrArg List.length hS
  have l2 : zs.length = 5 := by simpa using congrArg List.length hz
  match S, l1, zs, l2 with
  | [v0, v1, v2, v3, v4], _, [z0, z1, z2, z3, z4], _ =>
    subst hw
    simp only [List.map_cons, List.map_nil, List.ofFn_succ, List.ofFn_zero, List.cons.injEq, and_true] at hS hz
    obtain ⟨s0, s1, s2, s3, s4⟩ := hS
    obtain ⟨y0, y1, y2, y3, y4⟩ := hz
    have e0 := prob_lane v0 p _ s0
    have e1 := prob_lane v1 p _ s1
    have e2 := prob_lane v2 p _ s2
    have e3 := prob_lane v3 p _ s3
    have e4 := prob_lane v4 p _ s4
    have pos : (0 : ℝ) < ∑ k, Real.exp (-s k / 50) := Finset.sum_pos (fun k _ => Real.exp_pos _) ⟨0, Finset.mem_univ _⟩
    simp only [List.ofFn_succ, List.ofFn_zero, rowLoss, weighted, total, List.zipWith_cons_cons, List.zipWith_nil_left,
      List.map_cons, List.map_nil, List.foldl_cons, List.foldl_nil, divf_apply, subf_apply, mulf_apply, addf_apply]
    show Ideal.div (((((((Scalar.ofBits .f32 0x00000000#32 : Ideal .f32) + _ * prob v0 p) + _ * prob v1 p) + _ * prob v2 p)
        + _ * prob v3 p) + _ * prob v4 p) * lse p
      - ((((((Scalar.ofBits .f32 0x00000000#32 : Ideal .f32) + _ * prob v0 p * z0 p) + _ * prob v1 p * z1 p) + _ * prob v2 p * z2 p)
        + _ * prob v3 p * z3 p) + _ * prob v4 p * z4 p))
      ((((((Scalar.ofBits .f32 0x00000000#32 : Ideal .f32) + prob v0 p) + prob v1 p) + prob v2 p) + prob v3 p) + prob v4 p) = _
    rw [e0, e1, e2, e3, e4, y0, y1, y2, y3, y4, hl, zero_word]
    show Ideal.div (((((((((0 : ℝ) : EReal) + ((ω 0 : ℝ) : EReal) * _) + ((ω 1 : ℝ) : EReal) * _) + ((ω 2 : ℝ) : EReal) * _)
        + ((ω 3 : ℝ) : EReal) * _) + ((ω 4 : ℝ) : EReal) * _) * _
      - (((((((0 : ℝ) : EReal) + ((ω 0 : ℝ) : EReal) * _ * _) + ((ω 1 : ℝ) : EReal) * _ * _) + ((ω 2 : ℝ) : EReal) * _ * _)
        + ((ω 3 : ℝ) : EReal) * _ * _) + ((ω 4 : ℝ) : EReal) * _ * _))) _ = _
    simp only [← EReal.coe_mul, ← EReal.coe_add, ← EReal.coe_sub]
    rw [Cert.Real.div_coe]
    · congr 1
      simp only [loss, Fin.sum_univ_succ, Fin.sum_univ_zero]
      congr 1 <;> simp <;> ring
    · rw [show (0 : ℝ) + _ + _ + _ + _ + _ = ∑ k, Real.exp (-s k / 50) from by
        simp only [Fin.sum_univ_succ, Fin.sum_univ_zero]; simp; ring]
      exact pos.ne'

/-- The log-sum-exp of a row of real logits. -/
theorem lse_lane (x : FVec Ideal S4096x313 .f32) (p : Fin 4096) (ζ : Fin 313 → ℝ) (h : ∀ q, x (ix2 p q) = (ζ q : EReal)) :
    k0_pay3 (F := Ideal) x (ix1 p) = ((Real.log (∑ q, Real.exp (ζ q)) : ℝ) : EReal) := by
  have pos : (0 : ℝ) < ∑ q, Real.exp (ζ q) := Finset.sum_pos (fun k _ => Real.exp_pos _) ⟨0, Finset.mem_univ _⟩
  have e : (shapeCast S4096 (extractStridedSlice S1x4096 ![0, 0] (FloatOps.matmul (DotDims.transposedRhs 8 313 4096) none
      (broadcast S8x313 (Scalar.ofBits .f32 0x3F800000#32 : Ideal .f32)) (exp (shapeCast S4096x313 x shapeCasts_S4096x313_S4096x313))
      (constant S8x4096 .f32 0x00000000#32)) slices_S8x4096_o0_0_S1x4096) shapeCasts_S1x4096_S4096 : FVec Ideal S4096 .f32) (ix1 p)
      = ((∑ q, Real.exp (ζ q) : ℝ) : EReal) := by
    rw [shapeCast_apply _ _ _ (ix2 (0 : Fin 1) p) (by
      rw [Shape.rowMajor_val_two, Shape.rowMajor_val_one]; show 0 * 4096 + p.val = p.val; omega)]
    rw [extractStridedSlice_apply _ _ _ _ (ix2 (0 : Fin 8) p) (fun a => by
      match a with
      | ⟨0, _⟩ => rfl
      | ⟨1, _⟩ => exact (Nat.zero_add _).symm)]
    rw [Ideal.matmul_transposedRhs_apply, shapeCast_self, ← Cert.Real.sum_coe]
    have : ∀ q : Fin 313, (broadcast S8x313 (Scalar.ofBits .f32 0x3F800000#32 : Ideal .f32) : FVec Ideal S8x313 .f32) (ix2 0 q)
        * (exp x : FVec Ideal S4096x313 .f32) (ix2 p q) = ((Real.exp (ζ q) : ℝ) : EReal) := fun q => by
      show (Scalar.ofBits .f32 0x3F800000#32 : Ideal .f32) * Ideal.exp (x (ix2 p q)) = _
      rw [one_word, h, Cert.Real.exp_coe, ← EReal.coe_mul, one_mul]
    rw [Finset.sum_congr rfl fun q _ => this q]
    show (Scalar.ofBits .f32 0x00000000#32 : Ideal .f32) + _ = _
    rw [zero_word, EReal.coe_zero, zero_add]
  show Ideal.log _ = _
  rw [← Cert.Real.log_coe pos, ← e]
  rfl

/-- The reduction along the second axis of a one-row array. -/
theorem row_total (w : FVec Ideal S1x4096 .f32) (hφ : FKind.Formats .f32) (hacc : (0x00000000#32 : BitVec 32) = FKind.add.neutral .f32 hφ) :
    multiReduction .add [1] S1 w 0x00000000#32 reduces_S1x4096_S1 hφ hacc (ix1 0) = ∑ p : Fin 4096, w (ix2 0 p) := by
  have h : S1x4096.Reduces [1] S1 := reduces_S1x4096_S1
  refine (Ideal.multiReduction_add_single w _ h hφ hacc _).trans (Finset.sum_congr rfl fun p _ => congrArg w ?_)
  funext a
  match a with
  | ⟨0, _⟩ => rfl
  | ⟨1, _⟩ => rfl

/-- The sum of a block's losses. -/
theorem sumRows_total (v : FVec Ideal S4096 .f32) (j : S1x1.Idx) : sumRows v j = ∑ p : Fin 4096, v (ix1 p) := by
  have e : ∀ w : FVec Ideal S1 .f32, shapeCast S1x1 w shapeCasts_S1_S1x1 (ix2 0 0) = w (ix1 0) := fun w =>
    shapeCast_apply _ _ _ _ (by rw [Shape.rowMajor_val_two, Shape.rowMajor_val_one]; rfl)
  have i0 : (fun a => ⟨(![0, 0] : Fin 2 → Nat) a, inpos_S1x1_p0_0 a⟩ : S1x1.Idx) = ix2 0 0 := by
    funext a
    match a with
    | ⟨0, _⟩ => rfl
    | ⟨1, _⟩ => rfl
  have d : sumRows v j = shapeCast S1x1 (multiReduction .add [1] S1 (shapeCast S1x4096 v shapeCasts_S4096_S1x4096)
      0x00000000#32 reduces_S1x4096_S1 (.inl rfl) rfl) shapeCasts_S1_S1x1 (ix2 0 0) := by rw [← i0]; rfl
  rw [d, e]
  refine (row_total _ _ _).trans ?_
  refine Finset.sum_congr rfl fun p _ => shapeCast_apply _ _ _ _ ?_
  rw [Shape.rowMajor_val_two, Shape.rowMajor_val_one]
  show p.val = 0 * 4096 + p.val
  omega

end Cert.KernelIdeal.Value

end
-- ==== Proof.KernelSum.lean ====
/- The kernel's result over the reals: the mean over all 8 · 4096 pixels of the row losses. -/
module

public import proofs.«01_k».proof.Proof.Reads
public import proofs.«01_k».proof.Proof.Lane

@[expose] public section

noncomputable section

open scoped BigOperators
open Idealize.ShloMosaic Idealize.ShloMosaic.TcCoe Idealize.ShloMosaic.Tactic Idealize.SL.Sem Idealize.ShloMosaic.ValueIdx

namespace Cert.Spec

open Cert.KernelIdeal Cert.Order Cert.KernelIdeal.Value

/-- The bin order at one pixel: nearer first, equal distances by number. -/
def nearer (α β : ℝ) (i j : Fin 313) : Bool := decide (dist2 α β i.val < dist2 α β j.val)

/-- The bin that comes `k`-th. -/
def bin (α β : ℝ) (k : Fin 5) : Fin 313 := sortedFrom (nearer α β) (k.castLE (by decide))

/-- The five smallest squared distances. -/
def five (α β : ℝ) (k : Fin 5) : ℝ := dist2 α β (bin α β k).val

theorem found_five (α β : ℝ) (h : α ≤ 55) : found α β = List.ofFn (five α β) :=
  found_eq h (nearer α β) fun i j => decide_eq_true_iff

/-- Real values of the arguments' entries that the loss depends on. -/
structure Data (X0 : FVec Ideal S8x64x64x313 .f32) (X1 : FVec Ideal S8x3x64x64 .f32) (X2 : FVec Ideal S313 .f32) where
  z : Fin 8 → Fin 64 → Fin 64 → Fin 313 → ℝ
  a : Fin 8 → Fin 64 → Fin 64 → ℝ
  b : Fin 8 → Fin 64 → Fin 64 → ℝ
  w : Fin 5 → ℝ
  hz : ∀ n y x q, X0 (ix4 n y x q) = ((z n y x q : ℝ) : EReal)
  ha : ∀ n y x, X1 (ix4 n 1 y x) = ((a n y x : ℝ) : EReal)
  hb : ∀ n y x, X1 (ix4 n 2 y x) = ((b n y x : ℝ) : EReal)
  hw : ∀ k : Fin 5, X2 (ix1 ⟨k.val, by omega⟩) = ((w k : ℝ) : EReal)
  le : ∀ n y x, a n y x ≤ 55

variable {X0 : FVec Ideal S8x64x64x313 .f32} {X1 : FVec Ideal S8x3x64x64 .f32} {X2 : FVec Ideal S313 .f32}

/-- A pixel's log-sum-exp. -/
def Data.lse (D : Data X0 X1 X2) (n : Fin 8) (y x : Fin 64) : ℝ := Real.log (∑ q, Real.exp (D.z n y x q))

/-- A pixel's loss. -/
def Data.row (D : Data X0 X1 X2) (n : Fin 8) (y x : Fin 64) : ℝ :=
  loss (five (D.a n y x) (D.b n y x)) D.w (fun k => D.z n y x ⟨k.val, by omega⟩) (D.lse n y x)

/-- The mean of the losses. -/
def Data.mean (D : Data X0 X1 X2) : EReal :=
  Ideal.div (∑ n : Fin 8, ∑ p : Fin 4096, ((D.row n (py p) (px p) : ℝ) : EReal)) ((32768 : ℝ) : EReal)

end Cert.Spec

namespace Cert.KernelIdeal.Value

open Cert.KernelIdeal Cert.KernelIdeal.Gen Cert.Spec

variable (m : (ℓ : Loc nD τ sig) → Buf (Elt Ideal) ℓ)

theorem block_row (c : Dev nD) (D : Data (A0 m c) (A1 m c) (A2 m c)) (t : Fin cfg0.N) (p : Fin 4096) :
    blockLoss (F := Ideal) (iblk m c 0 t) (iblk m c 1 t) (iblk m c 2 t) (ix1 p)
      = ((D.row (img t) (py p) (px p) : ℝ) : EReal) := by
  refine rowLoss_lane _ _ _ _ _ _ _ _ _ ?_ ?_ ?_ ?_
  · rw [nearest_lane _ _ _ (D.a (img t) (py p) (px p)) (D.b (img t) (py p) (px p)), found_five _ _ (D.le _ _ _), List.map_ofFn]
    · rfl
    · exact (colour_read0 m c t p).trans (D.ha _ _ _)
    · exact (colour_read1 m c t p).trans (D.hb _ _ _)
  · have e : ∀ (k : Fin 5) h, weightAt (F := Ideal) (iblk m c 0 t) k.val h = ((D.w k : ℝ) : EReal) := fun k h =>
      (weight_read m c t k h).trans (D.hw k)
    simp only [weights, List.ofFn_succ, List.ofFn_zero]
    exact congrArg₂ List.cons (e 0 _) (congrArg₂ List.cons (e 1 _) (congrArg₂ List.cons (e 2 _)
      (congrArg₂ List.cons (e 3 _) (congrArg₂ List.cons (e 4 _) rfl))))
  · have e : ∀ (k : Fin 5) h, packRow (F := Ideal) (iblk m c 1 t) (2 + k.val) h (ix1 p)
        = ((D.z (img t) (py p) (px p) ⟨k.val, by omega⟩ : ℝ) : EReal) := fun k h =>
      (first_logits m c t k p h).trans (D.hz _ _ _ _)
    simp only [logits, List.map_cons, List.map_nil, List.ofFn_succ, List.ofFn_zero]
    exact congrArg₂ List.cons (e 0 _) (congrArg₂ List.cons (e 1 _) (congrArg₂ List.cons (e 2 _)
      (congrArg₂ List.cons (e 3 _) (congrArg₂ List.cons (e 4 _) rfl))))
  · exact lse_lane _ _ _ fun q => (logit_read m c t p q).trans (D.hz _ _ _ _)

theorem block_total (c : Dev nD) (D : Data (A0 m c) (A1 m c) (A2 m c)) (t : Fin cfg0.N) (j : S1x1.Idx) :
    blockSum m c t j = ∑ p : Fin 4096, ((D.row (img t) (py p) (px p) : ℝ) : EReal) := by
  unfold blockSum
  rw [sumRows_total]
  exact Finset.sum_congr rfl fun p _ => block_row m c D t p

theorem running_total (c : Dev nD) (D : Data (A0 m c) (A1 m c) (A2 m c)) (j : S1x1.Idx) :
    ∀ (n : ℕ) (h : n < cfg0.N), running m c n h j
      = ∑ t : Fin (n + 1), ∑ p : Fin 4096, ((D.row (img ⟨t.val, lt_of_lt_of_le t.isLt h⟩) (py p) (px p) : ℝ) : EReal)
  | 0, h => by
    show (Scalar.ofBits .f32 0x00000000#32 : Ideal .f32) + blockSum m c ⟨0, h⟩ j = _
    rw [zero_word, EReal.coe_zero, zero_add, block_total m c D, Fin.sum_univ_one]
    rfl
  | n + 1, h => by
    show running m c n _ j + blockSum m c ⟨n + 1, h⟩ j = _
    rw [running_total c D j n, block_total m c D]
    exact (Fin.sum_univ_castSucc (n := n + 1) fun t : Fin (n + 2) => ∑ p : Fin 4096,
      ((D.row (img ⟨t.val, lt_of_lt_of_le t.isLt h⟩) (py p) (px p) : ℝ) : EReal)).symm

theorem outcome_mean (c : Dev nD) (D : Data (A0 m c) (A1 m c) (A2 m c)) :
    (outcome m c : FVec Ideal S_ .f32) = fun _ => D.mean := by
  funext j
  unfold outcome
  show Ideal.div (shapeCast S_ (sum8 m c : FVec Ideal S1x1 .f32) shapeCasts_S1x1_S_ j) (Ideal.ofBits .f32 0x47000000#32) = _
  rw [Cert.Real.word_32768, shapeCast_apply _ _ _ (ix2 (0 : Fin 1) (0 : Fin 1)) (by
    have h1 := (S_.rowMajor j).isLt
    have e1 : S_.numel = 1 := rfl
    rw [Shape.rowMajor_val_two]
    show 0 * 1 + 0 = _
    omega)]
  unfold sum8
  rw [running_total m c D]
  rfl

end Cert.KernelIdeal.Value

end
-- ==== Proof.RefBins.lean ====
/- The reference's nearest bins, read at one pixel: the distances to the 313 grid points, the five bins its sort puts first,
   and the squared distance recomputed from each bin's row of the table. -/
module

public import proofs.«01_k».proof.Proof.KernelSum
public import proofs.«01_k».proof.Proof.Gen.ReferenceIdeal.Run

@[expose] public section

noncomputable section

open scoped BigOperators
open Idealize.ShloMosaic Idealize.ShloMosaic.TcCoe Idealize.SL.Sem Idealize.ShloMosaic.ValueIdx

namespace Cert.ReferenceIdeal.Value

open Cert.ReferenceIdeal Cert.ReferenceIdeal.Gen Cert.Spec Cert.Order
open Cert.KernelIdeal.Value (py px flat)

variable (X : Valuation τ sig (Elt Ideal))

/-- The four arguments. -/
abbrev R0 : FVec Ideal S8x64x64x313 .f32 := X (Proc.devRef .tc main_arg0)
abbrev R1 : FVec Ideal S8x3x64x64 .f32 := X (Proc.devRef .tc main_arg1)
abbrev R2 : FVec Ideal S313 .f32 := X (Proc.devRef .tc main_arg2)
abbrev R3 : FVec Ideal S313x2 .f32 := X (Proc.devRef .tc main_arg3)

/-- The distance arrays. -/
abbrev W12 : FVec Ideal S8x4096x313 .f32 := res_main_v12 X
abbrev W20 : FVec Ideal S8x4096x313 .f32 := res_main_v20 X
abbrev W24 : FVec Ideal S8x4096x313 .f32 := res_main_v24 X

/-- The table of grid points is the one the problem builds. -/
def IsTable (T : FVec Ideal S313x2 .f32) : Prop :=
  ∀ c : Fin 313, T (ix2 c 0) = ((tick (c.val / 18) : ℝ) : EReal) ∧ T (ix2 c 1) = ((tick (c.val % 18) : ℝ) : EReal)

/-- One colour channel as images. -/
theorem plane {α : Type} (x : S8x3x64x64.Idx → α) (off : Fin 4 → Nat) (ch : Fin 3) (hoff : off = ![0, ch.val, 0, 0])
    (h : S8x3x64x64.Slices off S8x1x64x64) (n : Fin 8) (y z : Fin 64) :
    shapeCast S8x64x64 (extractStridedSlice S8x1x64x64 off x h) shapeCasts_S8x1x64x64_S8x64x64 (ix3 n y z) = x (ix4 n ch y z) := by
  subst hoff
  rw [shapeCast_apply _ _ _ (ix4 n (0 : Fin 1) y z) (by
    rw [Shape.rowMajor_val_three, Shape.rowMajor_val_four]
    show ((n.val * 1 + 0) * 64 + y.val) * 64 + z.val = (n.val * 64 + y.val) * 64 + z.val; omega)]
  refine extractStridedSlice_apply _ _ _ _ _ fun a => ?_
  match a with
  | ⟨0, _⟩ => exact (Nat.zero_add _).symm
  | ⟨1, _⟩ => rfl
  | ⟨2, _⟩ => exact (Nat.zero_add _).symm
  | ⟨3, _⟩ => exact (Nat.zero_add _).symm

theorem v1_at (n : Fin 8) (y z : Fin 64) : (res_main_v1 X : FVec Ideal S8x64x64 .f32) (ix3 n y z) = R1 X (ix4 n 1 y z) :=
  plane (R1 X) _ 1 rfl slices_S8x3x64x64_S8x1x64x64_0_1_0_0 n y z

theorem v3_at (n : Fin 8) (y z : Fin 64) : (res_main_v3 X : FVec Ideal S8x64x64 .f32) (ix3 n y z) = R1 X (ix4 n 2 y z) :=
  plane (R1 X) _ 2 rfl slices_S8x3x64x64_S8x1x64x64_0_2_0_0 n y z

/-- A column of the table, along the last axis of the distance array. -/
theorem column {α : Type} (T : S313x2.Idx → α) (off : Fin 2 → Nat) (k : Fin 2) (hoff : off = ![0, k.val])
    (h : S313x2.Slices off S313x1) (n : Fin 8) (p : Fin 4096) (c : Fin 313) :
    broadcastInDim S8x4096x313 ![0, 1, 2] bcast_S1x1x313_S8x4096x313_0_1_2 (broadcastInDim S1x1x313 ![2] bcast_S313_S1x1x313_2
      (shapeCast S313 (extractStridedSlice S313x1 off T h) shapeCasts_S313x1_S313)) (ix3 n p c) = T (ix2 c k) := by
  subst hoff
  rw [broadcastInDim_apply _ _ _ _ (ix3 (0 : Fin 1) (0 : Fin 1) c) (fun a => by
    match a with | ⟨0, _⟩ => rfl | ⟨1, _⟩ => rfl | ⟨2, _⟩ => rfl)]
  rw [broadcastInDim_apply _ _ _ _ (ix1 c) (fun a => by match a with | ⟨0, _⟩ => rfl)]
  rw [shapeCast_apply _ _ _ (ix2 c (0 : Fin 1)) (by
    rw [Shape.rowMajor_val_two, Shape.rowMajor_val_one]; show c.val * 1 + 0 = c.val; omega)]
  refine extractStridedSlice_apply _ _ _ _ _ fun a => ?_
  match a with
  | ⟨0, _⟩ => exact (Nat.zero_add _).symm
  | ⟨1, _⟩ => rfl

/-- A channel, along the pixel axes of the distance array. -/
theorem spread {α : Type} (v : S8x64x64.Idx → α) (n : Fin 8) (p : Fin 4096) (c : Fin 313) :
    broadcastInDim S8x4096x313 ![0, 1, 2] bcast_S8x4096x1_S8x4096x313_0_1_2 (broadcastInDim S8x4096x1 ![0, 1] bcast_S8x4096_S8x4096x1_0_1
      (shapeCast S8x4096 v shapeCasts_S8x64x64_S8x4096)) (ix3 n p c) = v (ix3 n (py p) (px p)) := by
  rw [broadcastInDim_apply _ _ _ _ (ix3 n p (0 : Fin 1)) (fun a => by
    match a with | ⟨0, _⟩ => rfl | ⟨1, _⟩ => rfl | ⟨2, _⟩ => rfl)]
  rw [broadcastInDim_apply _ _ _ _ (ix2 n p) (fun a => by match a with | ⟨0, _⟩ => rfl | ⟨1, _⟩ => rfl)]
  refine shapeCast_apply _ _ _ _ ?_
  rw [Shape.rowMajor_val_two, Shape.rowMajor_val_three]
  show (n.val * 64 + p.val / 64) * 64 + p.val % 64 = n.val * 4096 + p.val
  omega

theorem v12_at (n : Fin 8) (p : Fin 4096) (c : Fin 313) : W12 X (ix3 n p c)
    = R3 X (ix2 c 0) - R1 X (ix4 n 1 (py p) (px p)) := by
  rw [← v1_at X n (py p) (px p), ← column (R3 X) _ 0 rfl slices_S313x2_S313x1_0_0 n p c, ← spread (res_main_v1 X : FVec Ideal S8x64x64 .f32) n p c]
  rfl

theorem v20_at (n : Fin 8) (p : Fin 4096) (c : Fin 313) : W20 X (ix3 n p c)
    = R3 X (ix2 c 1) - R1 X (ix4 n 2 (py p) (px p)) := by
  rw [← v3_at X n (py p) (px p), ← column (R3 X) _ 1 rfl slices_S313x2_S313x1_0_1 n p c, ← spread (res_main_v3 X : FVec Ideal S8x64x64 .f32) n p c]
  rfl

/-- A stable sort of pairs along the last axis, its second components. -/
theorem sort_second {α β : Type} (cmp : α × β → α × β → BitVec 1) (x : S8x4096x313.Idx → α) (y : S8x4096x313.Idx → β) (n : Fin 8) (p : Fin 4096) (c : Fin 313) :
    (Host.sort2 S8x4096x313 2 cmp x y).2 (ix3 n p c)
      = y (ix3 n p (sortedFrom (fun i j => cmp (x (ix3 n p i), y (ix3 n p i)) (x (ix3 n p j), y (ix3 n p j)) == 1#1) c)) := by
  have along : ∀ (c' : Fin 313), (ix3 n p c : S8x4096x313.Idx).along 2 c' = ix3 n p c' := by
    intro c'
    funext a
    match a with
    | ⟨0, _⟩ => rfl
    | ⟨1, _⟩ => rfl
    | ⟨2, _⟩ => rfl
  unfold Host.sort2
  rw [dif_pos (show 2 < S8x4096x313.rank by decide)]
  dsimp only
  have e : (fun c₁ c₂ : Fin 313 => cmp (x ((ix3 n p c : S8x4096x313.Idx).along 2 c₁), y ((ix3 n p c : S8x4096x313.Idx).along 2 c₁))
      (x ((ix3 n p c : S8x4096x313.Idx).along 2 c₂), y ((ix3 n p c : S8x4096x313.Idx).along 2 c₂)) == 1#1)
      = fun i j => cmp (x (ix3 n p i), y (ix3 n p i)) (x (ix3 n p j), y (ix3 n p j)) == 1#1 := by
    funext c₁ c₂
    rw [along, along]
  rw [← e]
  exact congrArg y (along _)

/-- The positions a stable sort along the last axis puts first are the sorted ones of its comparison there. -/
theorem first_of_sort {α : Type} (gt : α → α → BitVec 1) (x : S8x4096x313.Idx → α) (n : Fin 8) (p : Fin 4096)
    (B : Fin 313 → Fin 313 → Bool) (hB : ∀ i j, (gt (x (ix3 n p i)) (x (ix3 n p j)) == 1#1) = B i j) (k : Fin 5) (c : Fin 313)
    (hk : c.val = k.val) :
    (Host.topK S8x4096x5 2 gt x sliceFits_S8x4096x313_S8x4096x5).2 (ix3 n p k) = BitVec.ofNat 32 (sortedFrom B c).val := by
  obtain rfl : (fun i j => gt (x (ix3 n p i)) (x (ix3 n p j)) == 1#1) = B := funext fun i => funext fun j => hB i j
  have pos : ∀ c : Fin 313, (fun i : S8x4096x313.Idx => if hd : 2 < S8x4096x313.rank then iotaInDim S8x4096x313 32 ⟨2, hd⟩ i else 0#32)
      (ix3 n p c) = BitVec.ofNat 32 c.val := fun c => rfl
  rw [← pos]
  refine Eq.trans ?_ (sort_second (fun l r => gt l.1 r.1) x
    (fun i : S8x4096x313.Idx => if hd : 2 < S8x4096x313.rank then iotaInDim S8x4096x313 32 ⟨2, hd⟩ i else 0#32) n p c)
  unfold Host.topK
  dsimp only
  refine extractStridedSlice_apply _ _ _ _ _ fun a => ?_
  match a with
  | ⟨0, _⟩ => exact (Nat.zero_add _).symm
  | ⟨1, _⟩ => exact (Nat.zero_add _).symm
  | ⟨2, _⟩ => exact hk.trans (Nat.zero_add _).symm

theorem dist2_nonneg (α β : ℝ) (i : ℕ) : 0 ≤ dist2 α β i := add_nonneg (mul_self_nonneg _) (mul_self_nonneg _)

variable {X} (D : Data (R0 X) (R1 X) (R2 X)) (hT : IsTable (R3 X))

include D hT

/-- The negated distance of a pixel's colour from a grid point. -/
theorem v24_at (n : Fin 8) (p : Fin 4096) (c : Fin 313) : W24 X (ix3 n p c)
    = ((-Real.sqrt (dist2 (D.a n (py p) (px p)) (D.b n (py p) (px p)) c.val) : ℝ) : EReal) := by
  show -(Ideal.sqrt ((W12 X (ix3 n p c) : EReal) * W12 X (ix3 n p c)
    + (W20 X (ix3 n p c) : EReal) * W20 X (ix3 n p c))) = _
  rw [v12_at, v20_at, (hT c).1, (hT c).2, D.ha, D.hb]
  simp only [← EReal.coe_sub, ← EReal.coe_mul, ← EReal.coe_add]
  show -(Ideal.sqrt ((dist2 (D.a n (py p) (px p)) (D.b n (py p) (px p)) c.val : ℝ) : EReal)) = _
  rw [Cert.Real.sqrt_coe (dist2_nonneg _ _ c.val), ← EReal.coe_neg]

/-- The sort's comparison of two bins at one pixel. -/
theorem nearer_at (n : Fin 8) (p : Fin 4096) (i j : Fin 313) :
    (FloatOps.cmpfTotal (F := Ideal) (φ := .f32) .gt (W24 X (ix3 n p i))
      (W24 X (ix3 n p j)) == 1#1)
      = nearer (D.a n (py p) (px p)) (D.b n (py p) (px p)) i j := by
  rw [v24_at D hT, v24_at D hT, Ideal.cmpfTotal_def]
  show (BitVec.ofBool (decide (_ < _)) == 1#1) = decide _
  have e : ((-Real.sqrt (dist2 (D.a n (py p) (px p)) (D.b n (py p) (px p)) j.val) : ℝ) : EReal)
        < ((-Real.sqrt (dist2 (D.a n (py p) (px p)) (D.b n (py p) (px p)) i.val) : ℝ) : EReal)
      ↔ dist2 (D.a n (py p) (px p)) (D.b n (py p) (px p)) i.val < dist2 (D.a n (py p) (px p)) (D.b n (py p) (px p)) j.val := by
    rw [EReal.coe_lt_coe_iff, neg_lt_neg_iff]
    exact Real.sqrt_lt_sqrt_iff (dist2_nonneg _ _ _)
  by_cases hc : dist2 (D.a n (py p) (px p)) (D.b n (py p) (px p)) i.val < dist2 (D.a n (py p) (px p)) (D.b n (py p) (px p)) j.val
  · rw [decide_eq_true (e.2 hc), decide_eq_true hc]; rfl
  · rw [decide_eq_false (fun h => hc (e.1 h)), decide_eq_false hc]; rfl

/-- The bins the sort puts first. -/
theorem topK_at (n : Fin 8) (p : Fin 4096) (k : Fin 5) :
    (Host.topK S8x4096x5 2 (FloatOps.cmpfTotal (F := Ideal) (φ := .f32) .gt) (W24 X) sliceFits_S8x4096x313_S8x4096x5).2 (ix3 n p k)
      = BitVec.ofNat 32 (bin (D.a n (py p) (px p)) (D.b n (py p) (px p)) k).val :=
  first_of_sort _ _ n p _ (nearer_at D hT n p) k _ rfl

/-- One of the five bin arrays. -/
theorem slot_at (k : Fin 5) (off : Fin 4 → Nat) (hoff : off = ![0, 0, 0, k.val]) (h : S8x64x64x5.Slices off S8x64x64x1)
    (n : Fin 8) (y z : Fin 64) :
    shapeCast S8x64x64 (extractStridedSlice S8x64x64x1 off (res_main_v25 X : IVec S8x64x64x5 32) h) shapeCasts_S8x64x64x1_S8x64x64 (ix3 n y z)
      = BitVec.ofNat 32 (bin (D.a n y z) (D.b n y z) k).val := by
  subst hoff
  rw [shapeCast_apply _ _ _ (ix4 n y z (0 : Fin 1)) (by
    rw [Shape.rowMajor_val_three, Shape.rowMajor_val_four]
    show ((n.val * 64 + y.val) * 64 + z.val) * 1 + 0 = (n.val * 64 + y.val) * 64 + z.val; omega)]
  rw [extractStridedSlice_apply _ _ _ _ (ix4 n y z k) (fun a => by
    match a with
    | ⟨0, _⟩ => exact (Nat.zero_add _).symm
    | ⟨1, _⟩ => exact (Nat.zero_add _).symm
    | ⟨2, _⟩ => exact (Nat.zero_add _).symm
    | ⟨3, _⟩ => rfl)]
  have hp : y.val * 64 + z.val < 4096 := by omega
  have ey : py ⟨y.val * 64 + z.val, hp⟩ = y := Fin.ext (by show (y.val * 64 + z.val) / 64 = y.val; omega)
  have ez : px ⟨y.val * 64 + z.val, hp⟩ = z := Fin.ext (by show (y.val * 64 + z.val) % 64 = z.val; omega)
  have t := topK_at D hT n ⟨y.val * 64 + z.val, hp⟩ k
  rw [ey, ez] at t
  rw [← t]
  show shapeCast S8x64x64x5 _ shapeCasts_S8x4096x5_S8x64x64x5 (ix4 n y z k) = _
  refine shapeCast_apply _ _ _ _ ?_
  rw [Shape.rowMajor_val_three, Shape.rowMajor_val_four]
  show (n.val * 4096 + (y.val * 64 + z.val)) * 5 + k.val = ((n.val * 64 + y.val) * 64 + z.val) * 5 + k.val
  omega

end Cert.ReferenceIdeal.Value

end
-- ==== Proof.RefRow.lean ====
/- The reference's soft code at one pixel: the five bins' squared distances recomputed, their weights, and the encoded
   channels. -/
module

public import proofs.«01_k».proof.Proof.RefBins
public import Idealize.ShloMosaic.Lib.Routing.OpsSet

@[expose] public section

noncomputable section

open scoped BigOperators
open Idealize.ShloMosaic Idealize.ShloMosaic.TcCoe Idealize.SL.Sem Idealize.ShloMosaic.ValueIdx

namespace Cert.ReferenceIdeal.Value

open Cert.ReferenceIdeal Cert.ReferenceIdeal.Gen Cert.Spec Cert.Order
open Cert.KernelIdeal.Value (py px flat loss)

/-- The gather at a pixel whose index pair is inside the table. -/
theorem gather_at {α : Type} (T : S313x2.Idx → α) (idx : IVec S8x64x64x2 32) (n : Fin 8) (y z : Fin 64) (r : Fin 313) (c : Fin 2)
    (h0 : (idx (ix4 n y z 0)).toInt.toNat = r.val) (h1 : (idx (ix4 n y z 1)).toInt.toNat = c.val) :
    Host.gather gather_S313x2_S8x64x64x2_S8x64x64_n_01_n_n_01_3_11 T idx (ix3 n y z) = T (ix2 r c) := by
  have mem : ∀ a : Fin 2, a ∈ gather_S313x2_S8x64x64x2_S8x64x64_n_01_n_n_01_3_11.startIndexMap := by decide
  have kept : ∀ a : Fin 2, a ∉ gather_S313x2_S8x64x64x2_S8x64x64_n_01_n_n_01_3_11.sKept := by decide
  have at_axis : ∀ (a : Fin 2) (b : Nat), (idx (ix4 n y z a)).toInt.toNat = b → b + 1 ≤ S313x2.size a →
      gather_S313x2_S8x64x64x2_S8x64x64_n_01_n_n_01_3_11.start (ix3 n y z) idx a
        + gather_S313x2_S8x64x64x2_S8x64x64_n_01_n_n_01_3_11.batchCoord (ix3 n y z) a
        + gather_S313x2_S8x64x64x2_S8x64x64_n_01_n_n_01_3_11.offCoord (ix3 n y z) a = b := by
    intro a b hb hlt
    rw [GatherDims.batchCoord_eq_zero _ _ _ List.not_mem_nil, GatherDims.offCoord_eq_zero _ _ _ (kept a)]
    simp only [Nat.add_zero]
    unfold GatherDims.start
    rw [dif_pos (mem a)]
    have hsi : gather_S313x2_S8x64x64x2_S8x64x64_n_01_n_n_01_3_11.siIdx (ix3 n y z)
        ⟨List.idxOf a gather_S313x2_S8x64x64x2_S8x64x64_n_01_n_n_01_3_11.startIndexMap, List.idxOf_lt_length_iff.2 (mem a)⟩
        = (ix4 n y z a : S8x64x64x2.Idx) := by
      funext d; refine Fin.ext ?_
      match d with
      | ⟨0, _⟩ => rfl
      | ⟨1, _⟩ => rfl
      | ⟨2, _⟩ => rfl
      | ⟨3, _⟩ => match a with
        | ⟨0, _⟩ => rfl
        | ⟨1, _⟩ => rfl
    rw [hsi, hb]
    refine Nat.min_eq_left ?_
    show b ≤ S313x2.size a - (![1, 1] : Fin 2 → Nat) a
    match a with
    | ⟨0, _⟩ => exact Nat.le_sub_of_add_le hlt
    | ⟨1, _⟩ => exact Nat.le_sub_of_add_le hlt
  unfold Host.gather
  congr 1
  funext a
  refine Fin.ext ?_
  match a with
  | ⟨0, _⟩ => exact at_axis 0 r.val h0 r.isLt
  | ⟨1, _⟩ => exact at_axis 1 c.val h1 c.isLt

/-- One coordinate of the grid points named by a bin array, as the reference indexes the table. -/
def picked (T : FVec Ideal S313x2 .f32) (v : IVec S8x64x64 32) (k : BitVec 32) : FVec Ideal S8x64x64 .f32 :=
  Host.gather gather_S313x2_S8x64x64x2_S8x64x64_n_01_n_n_01_3_11 T
    (concatenate S8x64x64x2 3 [⟨S8x64x64x1, (broadcastInDim S8x64x64x1 ![0, 1, 2] bcast_S8x64x64_S8x64x64x1_0_1_2
        (select (cmpi .slt v (broadcastInDim S8x64x64 ![] bcast_S_S8x64x64 (constantI S_ 32 0#32)))
          (addi v (broadcastInDim S8x64x64 ![] bcast_S_S8x64x64 (constantI S_ 32 313#32))) v) : IVec S8x64x64x1 32)⟩,
      ⟨S8x64x64x1, (broadcastInDim S8x64x64x1 ![0, 1, 2] bcast_S8x64x64_S8x64x64x1_0_1_2
        (id (broadcastInDim S8x64x64 ![] bcast_S_S8x64x64 (constantI S_ 32 k))) : IVec S8x64x64x1 32)⟩]
      concatenates_S8x64x64x1_S8x64x64x1_S8x64x64x2_d3)

theorem unit_axis {α : Type} (v : S8x64x64.Idx → α) (n : Fin 8) (y z : Fin 64) (e : Fin 1) :
    broadcastInDim S8x64x64x1 ![0, 1, 2] bcast_S8x64x64_S8x64x64x1_0_1_2 v (ix4 n y z e) = v (ix3 n y z) :=
  broadcastInDim_apply _ _ _ _ _ fun a => by match a with | ⟨0, _⟩ => rfl | ⟨1, _⟩ => rfl | ⟨2, _⟩ => rfl

/-- A bin's number is not negative, so it is used as it is. -/
theorem plain_index : ∀ b : Fin 313, (Scalar.select (IntOp.cmpi .slt (BitVec.ofNat 32 b.val) 0#32)
    (BitVec.ofNat 32 b.val + 313#32) (BitVec.ofNat 32 b.val)).toInt.toNat = b.val := by decide +kernel

theorem picked_at (T : FVec Ideal S313x2 .f32) (v : IVec S8x64x64 32) (k : BitVec 32) (c : Fin 2) (hk : k.toInt.toNat = c.val)
    (n : Fin 8) (y z : Fin 64) (b : Fin 313) (hv : v (ix3 n y z) = BitVec.ofNat 32 b.val) :
    picked T v k (ix3 n y z) = T (ix2 b c) := by
  refine gather_at T _ n y z b c ?_ ?_
  · refine (congrArg (fun w : BitVec 32 => w.toInt.toNat) ((concatenate_pair_apply_left (t := S8x64x64x2) (s₁ := S8x64x64x1) (s₂ := S8x64x64x1)
      3 _ _ _ (ix4 n y z (0 : Fin 2)) rfl (ix4 n y z (0 : Fin 1)) (fun a => by
        match a with | ⟨0, _⟩ => rfl | ⟨1, _⟩ => rfl | ⟨2, _⟩ => rfl | ⟨3, _⟩ => rfl)).trans (unit_axis _ n y z 0))).trans ?_
    show (Scalar.select (IntOp.cmpi .slt (v (ix3 n y z)) 0#32) (v (ix3 n y z) + 313#32) (v (ix3 n y z))).toInt.toNat = _
    rw [hv]
    exact plain_index b
  · refine (congrArg (fun w : BitVec 32 => w.toInt.toNat) ((concatenate_pair_apply_right (t := S8x64x64x2) (s₁ := S8x64x64x1) (s₂ := S8x64x64x1)
      3 _ _ _ (ix4 n y z (1 : Fin 2)) rfl rfl (ix4 n y z (0 : Fin 1)) (fun a ha => by
        match a with | ⟨0, _⟩ => rfl | ⟨1, _⟩ => rfl | ⟨2, _⟩ => rfl | ⟨3, _⟩ => exact absurd rfl ha) rfl).trans (unit_axis _ n y z 0))).trans ?_
    exact hk

variable (X : Valuation τ sig (Elt Ideal))

/-- The two colour planes, the slots' bin arrays and the stacked weights. -/
abbrev W1 : FVec Ideal S8x64x64 .f32 := res_main_v1 X
abbrev W3 : FVec Ideal S8x64x64 .f32 := res_main_v3 X
abbrev W216 : FVec Ideal S8x64x64x5 .f32 := res_main_v216 X

/-- One slot's bin array. -/
abbrev binArray (off : Fin 4 → Nat) (h : S8x64x64x5.Slices off S8x64x64x1) : IVec S8x64x64 32 :=
  shapeCast S8x64x64 (extractStridedSlice S8x64x64x1 off (res_main_v25 X : IVec S8x64x64x5 32) h) shapeCasts_S8x64x64x1_S8x64x64

/-- The distance from each pixel's colour to its bin's grid point. -/
def away (v v' : IVec S8x64x64 32) : FVec Ideal S8x64x64 .f32 :=
  Host.sqrt (addf (mulf (subf (W1 X) (picked (R3 X) v 0#32)) (subf (W1 X) (picked (R3 X) v 0#32)))
    (mulf (subf (W3 X) (picked (R3 X) v' 1#32)) (subf (W3 X) (picked (R3 X) v' 1#32))))

/-- A bin's weight before normalisation. -/
def weigh (v v' : IVec S8x64x64 32) : FVec Ideal S8x64x64x1 .f32 :=
  broadcastInDim S8x64x64x1 ![0, 1, 2] bcast_S8x64x64_S8x64x64x1_0_1_2 (Host.exp (Host.divf (Host.negf (mulf (away X v v') (away X v v')))
    (broadcastInDim S8x64x64 ![] bcast_S_S8x64x64 (constant S_ .f32 0x42480000#32))))

/-- Five arrays stacked along a last axis, read at a layer. -/
theorem layer (p : Fin 5 → S8x64x64x1.Idx → EReal)
    (h : Shape.Concatenates [S8x64x64x1, S8x64x64x1, S8x64x64x1, S8x64x64x1, S8x64x64x1] S8x64x64x5 3) (n : Fin 8) (y z : Fin 64) (k : Fin 5) :
    concatenate S8x64x64x5 3 [⟨S8x64x64x1, p 0⟩, ⟨S8x64x64x1, p 1⟩, ⟨S8x64x64x1, p 2⟩, ⟨S8x64x64x1, p 3⟩, ⟨S8x64x64x1, p 4⟩] h (ix4 n y z k)
      = p k (ix4 n y z 0) := by
  refine concatenate_apply_piece (t := S8x64x64x5) 3 [⟨S8x64x64x1, p 0⟩, ⟨S8x64x64x1, p 1⟩, ⟨S8x64x64x1, p 2⟩, ⟨S8x64x64x1, p 3⟩,
    ⟨S8x64x64x1, p 4⟩] h (ix4 n y z k) k.val k.isLt S8x64x64x1 (p k) ?_ rfl k.val ?_ (ix4 n y z 0) (fun b hb => ?_) rfl
  · fin_cases k <;> rfl
  · fin_cases k <;> rfl
  · match b with
    | ⟨0, _⟩ => rfl
    | ⟨1, _⟩ => rfl
    | ⟨2, _⟩ => rfl
    | ⟨3, _⟩ => exact absurd rfl hb

/-- The slots' weights as one family. -/
def weights (k : Fin 5) : FVec Ideal S8x64x64x1 .f32 :=
  have fits : S8x64x64x5.Slices ![0, 0, 0, k.val] S8x64x64x1 := by revert k; decide
  weigh X (binArray X ![0, 0, 0, k.val] fits) (binArray X ![0, 0, 0, k.val] fits)

theorem v216_eq : W216 X = concatenate S8x64x64x5 3 [⟨S8x64x64x1, weights X 0⟩, ⟨S8x64x64x1, weights X 1⟩, ⟨S8x64x64x1, weights X 2⟩,
    ⟨S8x64x64x1, weights X 3⟩, ⟨S8x64x64x1, weights X 4⟩]
    concatenates_S8x64x64x1_S8x64x64x1_S8x64x64x1_S8x64x64x1_S8x64x64x1_S8x64x64x5_d3 := rfl

variable {X} (D : Data (R0 X) (R1 X) (R2 X)) (hT : IsTable (R3 X))

include D hT

theorem away_at (n : Fin 8) (y z : Fin 64) (v v' : IVec S8x64x64 32) (b : Fin 313) (hv : v (ix3 n y z) = BitVec.ofNat 32 b.val)
    (hv' : v' (ix3 n y z) = BitVec.ofNat 32 b.val) :
    away X v v' (ix3 n y z) = ((Real.sqrt (dist2 (D.a n y z) (D.b n y z) b.val) : ℝ) : EReal) := by
  show Ideal.sqrt (((W1 X (ix3 n y z) : EReal) - picked (R3 X) v 0#32 (ix3 n y z))
      * ((W1 X (ix3 n y z) : EReal) - picked (R3 X) v 0#32 (ix3 n y z))
    + ((W3 X (ix3 n y z) : EReal) - picked (R3 X) v' 1#32 (ix3 n y z))
      * ((W3 X (ix3 n y z) : EReal) - picked (R3 X) v' 1#32 (ix3 n y z))) = _
  rw [show W1 X (ix3 n y z) = _ from v1_at X n y z, show W3 X (ix3 n y z) = _ from v3_at X n y z, picked_at (R3 X) v 0#32 0 rfl n y z b hv, picked_at (R3 X) v' 1#32 1 rfl n y z b hv', (hT b).1, (hT b).2, D.ha, D.hb]
  simp only [← EReal.coe_sub, ← EReal.coe_mul, ← EReal.coe_add]
  rw [show (D.a n y z - tick (b.val / 18)) * (D.a n y z - tick (b.val / 18)) + (D.b n y z - tick (b.val % 18)) * (D.b n y z - tick (b.val % 18))
    = dist2 (D.a n y z) (D.b n y z) b.val by unfold dist2; ring]
  exact Cert.Real.sqrt_coe (dist2_nonneg _ _ _)

theorem weigh_at (n : Fin 8) (y z : Fin 64) (v v' : IVec S8x64x64 32) (k : Fin 5)
    (hv : v (ix3 n y z) = BitVec.ofNat 32 (bin (D.a n y z) (D.b n y z) k).val)
    (hv' : v' (ix3 n y z) = BitVec.ofNat 32 (bin (D.a n y z) (D.b n y z) k).val) (e : Fin 1) :
    weigh X v v' (ix4 n y z e) = ((Real.exp (-five (D.a n y z) (D.b n y z) k / 50) : ℝ) : EReal) := by
  unfold weigh
  rw [unit_axis]
  show Ideal.exp (Ideal.div (-((away X v v' (ix3 n y z) : EReal) * away X v v' (ix3 n y z))) (Ideal.ofBits .f32 0x42480000#32)) = _
  rw [away_at D hT n y z v v' _ hv hv', Cert.Real.word_50, ← EReal.coe_mul, Real.mul_self_sqrt (dist2_nonneg _ _ _), ← EReal.coe_neg,
    Cert.Real.div_coe _ (by norm_num), Cert.Real.exp_coe]
  rfl

/-- The five weights, stacked. -/
theorem v216_at (n : Fin 8) (y z : Fin 64) (k : Fin 5) :
    W216 X (ix4 n y z k) = ((Real.exp (-five (D.a n y z) (D.b n y z) k / 50) : ℝ) : EReal) := by
  rw [v216_eq]
  refine (layer (weights X) _ n y z k).trans ?_
  exact weigh_at D hT n y z _ _ k (slot_at D hT k _ rfl _ n y z) (slot_at D hT k _ rfl _ n y z) 0

end Cert.ReferenceIdeal.Value

end
-- ==== Proof.RefMean.lean ====
/- The reference's loss: the encoded channels, the log-softmax, one row's loss, and their mean. -/
module

public import proofs.«01_k».proof.Proof.RefRow

@[expose] public section

noncomputable section

open scoped BigOperators
open Idealize.ShloMosaic Idealize.ShloMosaic.TcCoe Idealize.SL.Sem Idealize.ShloMosaic.ValueIdx

namespace Cert.ReferenceIdeal.Value

open Cert.ReferenceIdeal Cert.ReferenceIdeal.Gen Cert.Spec Cert.Order
open Cert.KernelIdeal.Value (py px flat loss pixel_read zero_word)

/-! ### The scatter that widens five channels to 313 -/

/-- With every start at zero an update keeps its own place. -/
theorem lands (idx : IVec S1 32) (h0 : ∀ i, idx i = 0#32) (n : Fin 8) (y z : Fin 64) (k : Fin 5) :
    scatter_S8x64x64x313_S1_S8x64x64x5_0123_n_3_0.resultIdx? (ix4 n y z k) idx = some (ix4 n y z ⟨k.val, by omega⟩) := by
  have start : ∀ a, scatter_S8x64x64x313_S1_S8x64x64x5_0123_n_3_0.start (ix4 n y z k) idx a = 0 := by
    intro a
    unfold ScatterDims.start
    split
    · rw [h0]; rfl
    · rfl
  have window : ∀ a, scatter_S8x64x64x313_S1_S8x64x64x5_0123_n_3_0.window (ix4 n y z k) a
      = ((ix4 n y z ⟨k.val, by omega⟩ : S8x64x64x313.Idx) a).val := by
    intro a
    match a with
    | ⟨0, _⟩ => rfl
    | ⟨1, _⟩ => rfl
    | ⟨2, _⟩ => rfl
    | ⟨3, _⟩ => rfl
  unfold ScatterDims.resultIdx?
  rw [dif_pos (fun a => by
    rw [start, window, Int.zero_add]
    exact ⟨Int.natCast_nonneg _, Int.ofNat_lt.2 ((ix4 n y z ⟨k.val, by omega⟩ : S8x64x64x313.Idx) a).isLt⟩)]
  congr 1
  funext a
  refine Fin.ext ?_
  show (_ + _ : Int).toNat = _
  rw [start, window]
  omega

theorem widened_hit (x0 : S8x64x64x313.Idx → EReal) (idx : IVec S1 32) (h0 : ∀ i, idx i = 0#32) (upd : S8x64x64x5.Idx → EReal)
    (n : Fin 8) (y z : Fin 64) (k : Fin 5) :
    Host.scatter scatter_S8x64x64x313_S1_S8x64x64x5_0123_n_3_0 (fun _ b => b) x0 idx upd (ix4 n y z ⟨k.val, by omega⟩) = upd (ix4 n y z k) := by
  refine Routing.scatter_set_hit _ x0 idx upd _ _ (fun j hj => ?_) (ix4 n y z k) (lands idx h0 n y z k)
  obtain ⟨n', y', z', k', rfl⟩ : ∃ n' y' z' k', j = ix4 n' y' z' k' := ⟨_, _, _, _, eq_ix4 j⟩
  rw [lands idx h0] at hj
  have e := Option.some.inj hj
  have e0 : n' = n := congrFun e 0
  have e1 : y' = y := congrFun e 1
  have e2 : z' = z := congrFun e 2
  have e3 : k' = k := Fin.ext (congrArg (fun i : Fin 313 => i.val) (congrFun e 3))
  rw [e0, e1, e2, e3]

theorem widened_miss (x0 : S8x64x64x313.Idx → EReal) (idx : IVec S1 32) (h0 : ∀ i, idx i = 0#32) (upd : S8x64x64x5.Idx → EReal)
    (n : Fin 8) (y z : Fin 64) (c : Fin 313) (hc : 5 ≤ c.val) :
    Host.scatter scatter_S8x64x64x313_S1_S8x64x64x5_0123_n_3_0 (fun _ b => b) x0 idx upd (ix4 n y z c) = x0 (ix4 n y z c) := by
  refine Routing.scatter_set_miss _ x0 idx upd _ (fun j hj => ?_)
  obtain ⟨n', y', z', k', rfl⟩ : ∃ n' y' z' k', j = ix4 n' y' z' k' := ⟨_, _, _, _, eq_ix4 j⟩
  rw [lands idx h0] at hj
  have e3 : (⟨k'.val, by omega⟩ : Fin 313) = c := congrFun (Option.some.inj hj) 3
  have := congrArg Fin.val e3
  have := k'.isLt
  dsimp only at *
  omega

/-! ### Readings -/

section Pointwise

variable {s : Shape} (x y : FVec Ideal s .f32) (i : s.Idx)

theorem sub_at : subf x y i = (x i : EReal) - y i := rfl
theorem mul_at : mulf x y i = (x i : EReal) * y i := rfl
theorem max_at : maximumf x y i = max (x i : EReal) (y i) := rfl
theorem div_at : Host.divf x y i = Ideal.div (x i) (y i) := rfl
theorem neg_at : Host.negf x i = -(x i : EReal) := rfl
theorem exp_at : Host.exp x i = Ideal.exp (x i) := rfl
theorem log_at : Host.log x i = Ideal.log (x i) := rfl

end Pointwise

theorem drop_row (r : Fin 32768) (q : Fin 313) : reducesTo_S32768x313_S32768_d1.drop (ix2 r q) = ix1 r := by
  funext a; match a with | ⟨0, _⟩ => rfl

theorem column_read {α : Type} (v : S32768.Idx → α) (r : Fin 32768) (e : Fin 1) :
    broadcastInDim S32768x1 ![0] bcast_S32768_S32768x1_0 v (ix2 r e) = v (ix1 r) :=
  broadcastInDim_apply _ _ _ _ _ fun a => by match a with | ⟨0, _⟩ => rfl

theorem rows_read {α : Type} (v : S32768x1.Idx → α) (r : Fin 32768) (q : Fin 313) :
    broadcastInDim S32768x313 ![0, 1] bcast_S32768x1_S32768x313_0_1 v (ix2 r q) = v (ix2 r 0) :=
  broadcastInDim_apply _ _ _ _ _ fun a => by match a with | ⟨0, _⟩ => rfl | ⟨1, _⟩ => rfl

theorem weight_row {α : Type} (v : S313.Idx → α) (r : Fin 32768) (q : Fin 313) :
    broadcastInDim S32768x313 ![0, 1] bcast_S1x313_S32768x313_0_1 (broadcastInDim S1x313 ![1] bcast_S313_S1x313_1 v) (ix2 r q) = v (ix1 q) :=
  (broadcastInDim_apply _ _ _ _ (ix2 (0 : Fin 1) q) fun a => by match a with | ⟨0, _⟩ => rfl | ⟨1, _⟩ => rfl).trans
    (broadcastInDim_apply _ _ _ _ (ix1 q) fun a => by match a with | ⟨0, _⟩ => rfl)

theorem five_read {α : Type} (v : S8x64x64.Idx → α) (n : Fin 8) (y z : Fin 64) (k : Fin 5) :
    broadcastInDim S8x64x64x5 ![0, 1, 2, 3] bcast_S8x64x64x1_S8x64x64x5_0_1_2_3
      (broadcastInDim S8x64x64x1 ![0, 1, 2] bcast_S8x64x64_S8x64x64x1_0_1_2 v) (ix4 n y z k) = v (ix3 n y z) :=
  (broadcastInDim_apply _ _ _ _ (ix4 n y z (0 : Fin 1)) fun a => by
    match a with | ⟨0, _⟩ => rfl | ⟨1, _⟩ => rfl | ⟨2, _⟩ => rfl | ⟨3, _⟩ => rfl).trans (unit_axis v n y z 0)

/-- A sum along a row's 313 channels. -/
theorem row_sum (x : S32768x313.Idx → EReal) (r : Fin 32768) :
    Host.reduceAdd (F := Ideal) (φ := .f32) x (constant (F := Ideal) S_ .f32 0#32) reducesTo_S32768x313_S32768_d1 h_S_ (ix1 r)
      = ((0 : ℝ) : EReal) + ∑ q : Fin 313, x (ix2 r q) := by
  have h : S32768x313.Reduces [1] S32768 := by decide
  refine (Ideal.hostReduceAdd_single reducesTo_S32768x313_S32768_d1 h x _ (ix1 r)).trans ?_
  refine congr (congrArg _ zero_word) (Finset.sum_congr rfl fun q _ => congrArg x ?_)
  funext a; match a with | ⟨0, _⟩ => rfl | ⟨1, _⟩ => rfl

/-- A sum along a pixel's five slots. -/
theorem slot_sum (x : S8x64x64x5.Idx → EReal) (n : Fin 8) (y z : Fin 64) :
    Host.reduceAdd (F := Ideal) (φ := .f32) x (constant (F := Ideal) S_ .f32 0#32) reducesTo_S8x64x64x5_S8x64x64_d3 h_S_ (ix3 n y z)
      = ((0 : ℝ) : EReal) + ∑ k : Fin 5, x (ix4 n y z k) := by
  have h : S8x64x64x5.Reduces [3] S8x64x64 := by decide
  refine (Ideal.hostReduceAdd_single reducesTo_S8x64x64x5_S8x64x64_d3 h x _ (ix3 n y z)).trans ?_
  refine congr (congrArg _ zero_word) (Finset.sum_congr rfl fun q _ => congrArg x ?_)
  funext a; match a with | ⟨0, _⟩ => rfl | ⟨1, _⟩ => rfl | ⟨2, _⟩ => rfl | ⟨3, _⟩ => rfl

/-- The sum of every row. -/
theorem all_sum (x : S32768.Idx → EReal) (j : S_.Idx) :
    Host.reduceAdd (F := Ideal) (φ := .f32) x (constant (F := Ideal) S_ .f32 0#32) reducesTo_S32768_S_d0 h_S_ j
      = ((0 : ℝ) : EReal) + ∑ n : Fin 8, ∑ p : Fin 4096, x (ix1 (flat n p)) := by
  refine (Ideal.hostReduceAdd_total reducesTo_S32768_S_d0 (fun b => b.elim0) x _ j).trans ?_
  refine congr (congrArg _ zero_word) ?_
  rw [← Fintype.sum_prod_type' (fun (n : Fin 8) (p : Fin 4096) => x (ix1 (flat n p)))]
  symm
  refine Fintype.sum_bijective (fun np : Fin 8 × Fin 4096 => (ix1 (flat np.1 np.2) : S32768.Idx)) ⟨?_, ?_⟩ _ _ fun _ => rfl
  · rintro ⟨n, p⟩ ⟨n', p'⟩ e
    have e0 : n.val * 4096 + p.val = n'.val * 4096 + p'.val := congrArg Fin.val (congrFun e 0 : flat n p = flat n' p')
    have := p.isLt
    have := p'.isLt
    exact Prod.ext (Fin.ext (by dsimp only; omega)) (Fin.ext (by dsimp only; omega))
  · intro i
    have hi : (i 0).val < 32768 := (i 0).isLt
    refine ⟨(⟨(i 0).val / 4096, by omega⟩, ⟨(i 0).val % 4096, by omega⟩), ?_⟩
    funext a
    match a with
    | ⟨0, _⟩ => exact Fin.ext (show (i 0).val / 4096 * 4096 + (i 0).val % 4096 = (i 0).val by omega)

/-! ### The largest logit is a real number -/

theorem max_fold {ι : Type} (x : ι → EReal) (hx : ∀ i, ∃ r : ℝ, x i = r) (l : List ι) (r0 : ℝ) :
    ∃ r : ℝ, l.foldl (fun a i => max a (x i)) (r0 : EReal) = r := by
  induction l generalizing r0 with
  | nil => exact ⟨r0, rfl⟩
  | cons i l ih =>
    obtain ⟨r, hr⟩ := hx i
    rw [List.foldl_cons, hr, show max (r0 : EReal) r = ((max r0 r : ℝ) : EReal) from (EReal.coe_strictMono.monotone.map_max).symm]
    exact ih _

theorem max_fold_bot {ι : Type} (x : ι → EReal) (hx : ∀ i, ∃ r : ℝ, x i = r) (l : List ι) (hl : l ≠ []) :
    ∃ r : ℝ, l.foldl (fun a i => max a (x i)) (⊥ : EReal) = r := by
  match l, hl with
  | i :: l, _ =>
    obtain ⟨r, hr⟩ := hx i
    rw [List.foldl_cons, hr, max_eq_right bot_le]
    exact max_fold x hx l r

/-- Each row's largest entry. -/
def top (x : FVec Ideal S32768x313 .f32) : FVec Ideal S32768 .f32 :=
  Host.reduce FloatOps.maximumf x (constant S_ .f32 0xFF800000#32) reducesTo_S32768x313_S32768_d1 h_S_

theorem row_max (x : FVec Ideal S32768x313 .f32) (hx : ∀ i, ∃ r : ℝ, (x i : EReal) = r) (r : Fin 32768) :
    ∃ M : ℝ, (top x (ix1 r) : EReal) = M := by
  obtain ⟨M, hM⟩ := max_fold_bot (fun n => (x (S32768x313.rowMajor.symm n) : EReal)) (fun n => hx _)
    ((List.finRange S32768x313.numel).filter fun n => reducesTo_S32768x313_S32768_d1.drop (S32768x313.rowMajor.symm n) = ix1 r)
    (List.ne_nil_of_mem (a := S32768x313.rowMajor (ix2 r 0)) (List.mem_filter.2 ⟨List.mem_finRange _, decide_eq_true (by
      rw [Equiv.symm_apply_apply]; exact drop_row r 0)⟩))
  refine ⟨M, Eq.trans ?_ hM⟩
  show List.foldl _ (Ideal.ofBits .f32 0xFF800000#32) _ = _
  rw [Cert.Real.word_bot]
  rfl

/-! ### One row -/

variable {X : Valuation τ sig (Elt Ideal)}

variable (X) in
abbrev W224 : FVec Ideal S32768x313 .f32 := res_main_v224 X
variable (X) in
abbrev S5 : FVec Ideal S32768x313 .f32 := res_main_call0_v5 X

/-- The normalised weights. -/
def soft (X : Valuation τ sig (Elt Ideal)) : FVec Ideal S8x64x64x5 .f32 :=
  Host.divf (W216 X) (broadcastInDim S8x64x64x5 ![0, 1, 2, 3] bcast_S8x64x64x1_S8x64x64x5_0_1_2_3
    (broadcastInDim S8x64x64x1 ![0, 1, 2] bcast_S8x64x64_S8x64x64x1_0_1_2
      (Host.reduceAdd (W216 X) (constant S_ .f32 0#32) reducesTo_S8x64x64x5_S8x64x64_d3 h_S_)))

/-- The encoded colours, one row per pixel. -/
def code (X : Valuation τ sig (Elt Ideal)) : FVec Ideal S32768x313 .f32 :=
  shapeCast S32768x313 (Host.scatter scatter_S8x64x64x313_S1_S8x64x64x5_0123_n_3_0 (fun _ b => b)
    (broadcastInDim S8x64x64x313 ![] bcast_S_S8x64x64x313 (constant S_ .f32 0#32))
    (broadcastInDim S1 ![] bcast_S_S1 (constantI S_ 32 0#32)) (soft X)) shapeCasts_S8x64x64x313_S32768x313

/-- The log-softmax of the logits. -/
def logp (X : Valuation τ sig (Elt Ideal)) : FVec Ideal S32768x313 .f32 :=
  subf (S5 X) (broadcastInDim S32768x313 ![0, 1] bcast_S32768x1_S32768x313_0_1 (Host.log (broadcastInDim S32768x1 ![0] bcast_S32768_S32768x1_0
    (Host.reduceAdd (Host.exp (S5 X)) (constant S_ .f32 0#32) reducesTo_S32768x313_S32768_d1 h_S_))))

/-- Each row's loss. -/
def rows (X : Valuation τ sig (Elt Ideal)) : FVec Ideal S32768 .f32 :=
  Host.negf (Host.reduceAdd (mulf (mulf (broadcastInDim S32768x313 ![0, 1] bcast_S1x313_S32768x313_0_1
    (broadcastInDim S1x313 ![1] bcast_S313_S1x313_1 (R2 X))) (code X)) (logp X)) (constant S_ .f32 0#32) reducesTo_S32768x313_S32768_d1 h_S_)

/-- The reference's result. -/
def result (X : Valuation τ sig (Elt Ideal)) : FVec Ideal S_ .f32 :=
  Host.divf (Host.reduceAdd (rows X) (constant S_ .f32 0#32) reducesTo_S32768_S_d0 h_S_) (constant S_ .f32 0x47000000#32)

variable (D : Data (R0 X) (R1 X) (R2 X)) (hT : IsTable (R3 X))

include D

theorem v224_at (n : Fin 8) (p : Fin 4096) (q : Fin 313) : W224 X (ix2 (flat n p) q) = ((D.z n (py p) (px p) q : ℝ) : EReal) :=
  (pixel_read (R0 X) n p q).trans (D.hz _ _ _ _)

theorem v224_real (i : S32768x313.Idx) : ∃ r : ℝ, (W224 X i : EReal) = r := by
  have hi : (i 0).val < 32768 := (i 0).isLt
  have e : i = ix2 (flat ⟨(i 0).val / 4096, by omega⟩ ⟨(i 0).val % 4096, by omega⟩) (i 1) := by
    refine (eq_ix2 i).trans ?_
    congr 1
    exact Fin.ext (show (i 0).val = (i 0).val / 4096 * 4096 + (i 0).val % 4096 by omega)
  rw [e]
  exact ⟨_, v224_at D _ _ _⟩

omit D in
theorem shift_eq : S5 X = subf (W224 X) (broadcastInDim S32768x313 ![0, 1] bcast_S32768x1_S32768x313_0_1 (broadcastInDim S32768x1 ![0]
    bcast_S32768_S32768x1_0 (maximumf (broadcastInDim S32768 ![] bcast_S_S32768 (constant S_ .f32 0xFF800000#32)) (top (W224 X))))) := rfl

/-- The shifted logits of a row. -/
theorem shifted (r : Fin 32768) : ∃ M : ℝ, ∀ q : Fin 313, S5 X (ix2 r q) = (W224 X (ix2 r q) : EReal) - (M : EReal) := by
  obtain ⟨M, hM⟩ := row_max (W224 X) (v224_real D) r
  refine ⟨M, fun q => ?_⟩
  rw [shift_eq, sub_at, rows_read, column_read, max_at, hM, broadcastInDim_scalar_apply]
  refine congrArg (fun t : EReal => (W224 X (ix2 r q) : EReal) - t) ?_
  exact (congrArg (fun t : EReal => max t (M : EReal)) Cert.Real.word_bot).trans (max_eq_right bot_le)

/-- The shift leaves the log-softmax as it is. -/
theorem logp_at (n : Fin 8) (p : Fin 4096) (q : Fin 313) :
    logp X (ix2 (flat n p) q) = ((D.z n (py p) (px p) q - D.lse n (py p) (px p) : ℝ) : EReal) := by
  obtain ⟨M, hM⟩ := shifted D (flat n p)
  have hS : ∀ c, S5 X (ix2 (flat n p) c) = ((D.z n (py p) (px p) c - M : ℝ) : EReal) := fun c => by
    rw [hM c, v224_at D, EReal.coe_sub]
  have pos : 0 < ∑ c : Fin 313, Real.exp (D.z n (py p) (px p) c) := Finset.sum_pos (fun _ _ => Real.exp_pos _) ⟨0, Finset.mem_univ _⟩
  unfold logp
  rw [sub_at, rows_read, log_at, column_read, row_sum, show (∑ c : Fin 313, (Host.exp (F := Ideal) (φ := .f32) (S5 X) (ix2 (flat n p) c) : EReal))
      = ((∑ c : Fin 313, Real.exp (D.z n (py p) (px p) c - M) : ℝ) : EReal) from by
    rw [← Cert.Real.sum_coe]
    exact Finset.sum_congr rfl fun c _ => by rw [exp_at, hS c, Cert.Real.exp_coe]]
  have split : ∑ c : Fin 313, Real.exp (D.z n (py p) (px p) c - M) = (∑ c : Fin 313, Real.exp (D.z n (py p) (px p) c)) * Real.exp (-M) := by
    rw [Finset.sum_mul]
    exact Finset.sum_congr rfl fun c _ => by rw [sub_eq_add_neg, Real.exp_add]
  rw [← EReal.coe_add, zero_add, split, Cert.Real.log_coe (mul_pos pos (Real.exp_pos _)), hS q, ← EReal.coe_sub,
    Real.log_mul pos.ne' (Real.exp_pos _).ne', Real.log_exp]
  congr 1
  show _ = D.z n (py p) (px p) q - Real.log (∑ c : Fin 313, Real.exp (D.z n (py p) (px p) c))
  ring

include hT

theorem soft_at (n : Fin 8) (y z : Fin 64) (k : Fin 5) :
    soft X (ix4 n y z k) = ((Real.exp (-five (D.a n y z) (D.b n y z) k / 50) / ∑ j, Real.exp (-five (D.a n y z) (D.b n y z) j / 50) : ℝ) : EReal) := by
  unfold soft
  rw [div_at, five_read, slot_sum, v216_at D hT, Finset.sum_congr rfl (fun j _ => v216_at D hT n y z j), Cert.Real.sum_coe, ← EReal.coe_add, zero_add]
  exact Cert.Real.div_coe _ (Finset.sum_pos (fun _ _ => Real.exp_pos _) ⟨0, Finset.mem_univ _⟩).ne'

theorem code_low (n : Fin 8) (p : Fin 4096) (k : Fin 5) :
    code X (ix2 (flat n p) ⟨k.val, by omega⟩) = ((Real.exp (-five (D.a n (py p) (px p)) (D.b n (py p) (px p)) k / 50)
      / ∑ j, Real.exp (-five (D.a n (py p) (px p)) (D.b n (py p) (px p)) j / 50) : ℝ) : EReal) := by
  refine (pixel_read _ n p _).trans ?_
  exact (widened_hit _ _ (fun _ => rfl) _ n (py p) (px p) k).trans (soft_at D hT n (py p) (px p) k)

omit D hT in
theorem code_high (n : Fin 8) (p : Fin 4096) (c : Fin 313) (hc : 5 ≤ c.val) : code X (ix2 (flat n p) c) = ((0 : ℝ) : EReal) := by
  refine (pixel_read _ n p _).trans ?_
  exact (widened_miss _ _ (fun _ => rfl) _ n (py p) (px p) c hc).trans zero_word

omit D hT in
/-- A sum over the channels of terms that vanish from the sixth on. -/
theorem first_channels (f : Fin 313 → EReal) (h : ∀ c : Fin 313, 5 ≤ c.val → f c = 0) :
    ∑ c, f c = ∑ k : Fin 5, f ⟨k.val, by omega⟩ := by
  refine (Fin.sum_univ_add (a := 5) (b := 308) f).trans ?_
  rw [Finset.sum_eq_zero (s := (Finset.univ : Finset (Fin 308))) (fun c _ => h (Fin.natAdd 5 c) (Nat.le_add_right 5 c.val)), add_zero]
  rfl

/-- A row's loss is the one the kernel computes for the pixel. -/
theorem rows_at (n : Fin 8) (p : Fin 4096) : rows X (ix1 (flat n p)) = ((D.row n (py p) (px p) : ℝ) : EReal) := by
  unfold rows
  rw [neg_at, row_sum]
  have term : ∀ c : Fin 313, (mulf (F := Ideal) (φ := .f32) (mulf (broadcastInDim S32768x313 ![0, 1] bcast_S1x313_S32768x313_0_1
      (broadcastInDim S1x313 ![1] bcast_S313_S1x313_1 (R2 X))) (code X)) (logp X) (ix2 (flat n p) c) : EReal)
      = (R2 X (ix1 c) : EReal) * code X (ix2 (flat n p) c) * logp X (ix2 (flat n p) c) := by
    intro c
    rw [mul_at, mul_at, weight_row]
  rw [Finset.sum_congr rfl (fun c _ => term c), first_channels _ (fun c hc => by
    rw [code_high n p c hc, EReal.coe_zero, mul_zero, zero_mul])]
  have low : ∀ k : Fin 5, (R2 X (ix1 ⟨k.val, by omega⟩) : EReal) * code X (ix2 (flat n p) ⟨k.val, by omega⟩) * logp X (ix2 (flat n p) ⟨k.val, by omega⟩)
      = ((D.w k * (Real.exp (-five (D.a n (py p) (px p)) (D.b n (py p) (px p)) k / 50)
        / ∑ j, Real.exp (-five (D.a n (py p) (px p)) (D.b n (py p) (px p)) j / 50)) * (D.z n (py p) (px p) ⟨k.val, by omega⟩ - D.lse n (py p) (px p)) : ℝ) : EReal) := by
    intro k
    rw [code_low D hT, logp_at D, D.hw, ← EReal.coe_mul, ← EReal.coe_mul]
  rw [Finset.sum_congr rfl (fun k _ => low k), Cert.Real.sum_coe, ← EReal.coe_add, ← EReal.coe_neg]
  congr 1
  unfold Data.row loss
  have pos : (∑ j, Real.exp (-five (D.a n (py p) (px p)) (D.b n (py p) (px p)) j / 50)) ≠ 0 :=
    (Finset.sum_pos (fun _ _ => Real.exp_pos _) ⟨0, Finset.mem_univ _⟩).ne'
  rw [eq_div_iff pos, zero_add, neg_mul, Finset.sum_mul, Finset.sum_mul, ← Finset.sum_sub_distrib, ← Finset.sum_neg_distrib]
  refine Finset.sum_congr rfl fun k _ => ?_
  field_simp
  ring

theorem rows_sum : (∑ n : Fin 8, ∑ p : Fin 4096, (rows X (ix1 (flat n p)) : EReal))
    = ∑ n : Fin 8, ∑ p : Fin 4096, ((D.row n (py p) (px p) : ℝ) : EReal) :=
  Finset.sum_congr rfl fun n _ => Finset.sum_congr rfl fun p _ => rows_at D hT n p

omit D hT in
theorem result_at (j : S_.Idx) : result X j = Ideal.div (∑ n : Fin 8, ∑ p : Fin 4096, (rows X (ix1 (flat n p)) : EReal)) ((32768 : ℝ) : EReal) := by
  unfold result
  rw [div_at, all_sum, EReal.coe_zero, zero_add]
  exact congrArg (Ideal.div _) Cert.Real.word_32768

/-- The reference's result is the mean of the rows' losses. -/
theorem result_mean : result X = fun _ => D.mean := by
  funext j
  rw [result_at, rows_sum D hT, Data.mean]

end Cert.ReferenceIdeal.Value

end
-- ==== Proof.Equal.lean ====
/- The two programs' results are the same number. -/
module

public import proofs.«01_k».proof.Defs
public import proofs.«01_k».proof.Proof.Ideals
public import proofs.«01_k».proof.Proof.KernelValue
public import proofs.«01_k».proof.Proof.KernelSum
public import proofs.«01_k».proof.Proof.RefMean

@[expose] public section

noncomputable section

open scoped BigOperators
open Idealize.ShloMosaic Idealize.ShloMosaic.TcCoe Idealize.SL.Sem Idealize.ShloMosaic.ValueIdx

namespace Cert.Proof

open Cert.Spec

/-- Inputs in range are given by real numbers. -/
def dataOf (X0 : FVec Ideal Cert.KernelIdeal.S8x64x64x313 .f32) (X1 : FVec Ideal Cert.KernelIdeal.S8x3x64x64 .f32)
    (X2 : FVec Ideal Cert.KernelIdeal.S313 .f32) (X3 : FVec Ideal Cert.KernelIdeal.S313x2 .f32)
    (h0 : (Cert.Pre_inputs_in_range.fn (F := Ideal) X0 X1 X2 X3).1 = fun _ => 1#1)
    (h1 : (Cert.Pre_inputs_in_range.fn (F := Ideal) X0 X1 X2 X3).2.1 = fun _ => 1#1)
    (h2 : (Cert.Pre_inputs_in_range.fn (F := Ideal) X0 X1 X2 X3).2.2.1 = fun _ => 1#1)
    (h3 : (Cert.Pre_inputs_in_range.fn (F := Ideal) X0 X1 X2 X3).2.2.2.1 = fun _ => 1#1) : Data X0 X1 X2 where
  z n y x q := (Cert.Pre_inputs_in_range.logits_real X0 X1 X2 X3 h0 (ix4 n y x q)).choose
  a n y x := (Cert.Pre_inputs_in_range.colour_real X0 X1 X2 X3 h1 n 0 y x).choose
  b n y x := (Cert.Pre_inputs_in_range.colour_real X0 X1 X2 X3 h1 n 1 y x).choose
  w k := (Cert.Pre_inputs_in_range.weights_real X0 X1 X2 X3 h2 k).choose
  hz n y x q := (Cert.Pre_inputs_in_range.logits_real X0 X1 X2 X3 h0 (ix4 n y x q)).choose_spec
  ha n y x := (Cert.Pre_inputs_in_range.colour_real X0 X1 X2 X3 h1 n 0 y x).choose_spec
  hb n y x := (Cert.Pre_inputs_in_range.colour_real X0 X1 X2 X3 h1 n 1 y x).choose_spec
  hw k := (Cert.Pre_inputs_in_range.weights_real X0 X1 X2 X3 h2 k).choose_spec
  le n y x := EReal.coe_le_coe_iff.1
    ((Cert.Pre_inputs_in_range.colour_real X0 X1 X2 X3 h1 n 0 y x).choose_spec ▸ Cert.Pre_inputs_in_range.colour_le X0 X1 X2 X3 h3 n y x)

/-- Equal inputs in range give equal results, stated over the arrays. -/
theorem same (m : (ℓ : Loc Cert.KernelIdeal.nD Cert.KernelIdeal.τ Cert.KernelIdeal.sig) → Buf (Elt Ideal) ℓ) (c : Dev Cert.KernelIdeal.nD)
    (X : Valuation Cert.ReferenceIdeal.τ Cert.ReferenceIdeal.sig (Elt Ideal))
    (e0 : Cert.ReferenceIdeal.Value.R0 X = Cert.KernelIdeal.Value.A0 m c) (e1 : Cert.ReferenceIdeal.Value.R1 X = Cert.KernelIdeal.Value.A1 m c)
    (e2 : Cert.ReferenceIdeal.Value.R2 X = Cert.KernelIdeal.Value.A2 m c) (hT : Cert.ReferenceIdeal.Value.IsTable (Cert.ReferenceIdeal.Value.R3 X))
    (D : Data (Cert.KernelIdeal.Value.A0 m c) (Cert.KernelIdeal.Value.A1 m c) (Cert.KernelIdeal.Value.A2 m c)) :
    Cert.ReferenceIdeal.Value.result X = (Cert.KernelIdeal.Value.outcome m c : FVec Ideal Cert.KernelIdeal.S_ .f32) := by
  rw [Cert.KernelIdeal.Value.outcome_mean m c D]
  revert D
  rw [← e0, ← e1, ← e2]
  exact fun D => Cert.ReferenceIdeal.Value.result_mean D hT

theorem equal : Cert.algebraic_KernelIdeal_ReferenceIdeal_pre_inputs_in_range (hKernelIdeal := Cert.KernelIdeal.Gen.facts)
    (hReferenceIdeal := Cert.ReferenceIdeal.Gen.facts) (hPre_inputs_in_range := Cert.Pre_inputs_in_range.facts) := by
  intro m g m' g' pre args
  refine ⟨_, Cert.KernelIdeal.Value.run (F := Ideal) m g, ?_⟩
  refine (θ_run Cert.ReferenceIdeal.defs _ _).mono (fun _ h c => ⟨(h c).1.trans ?_, (h c).2⟩) (Cert.ReferenceIdeal.Value.run (F := Ideal) m' g')
  obtain ⟨e0, e1, e2, e3⟩ := args c
  obtain ⟨h0, h1, h2, h3, h4⟩ := pre c
  refine same m c (StableHlo.launchContents m' c) e0 e1 e2 (fun b => ?_) (dataOf _ _ _ _ h0 h1 h2 h3)
  have t := Cert.Pre_inputs_in_range.table _ _ _ _ h4 b
  exact ⟨(congrFun e3 (ix2 b 0)).trans t.1, (congrFun e3 (ix2 b 1)).trans t.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphore; its arguments end as they began. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts, Cert.Pre_inputs_in_range.facts,
    fun m g _ => Cert.Kernel.Gen.frame m g, fun m g _ => Cert.KernelIdeal.Gen.frame m g, fun m g _ => Cert.KernelIdeal.Gen.frame m g,
    fun m g _ => reference_quiet m g, fun m g _ => reference_quiet m g,
    IdealRules.named_const.statement Cert.KernelIdeal.κ "neg_inv_50" .f32 0xBCA3D70A#32 ((-1 / 50 : ℝ) : EReal) rfl,
    equal⟩

end Cert.Proof

end
